-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_values [hPre_finite_values : Cert.Pre_finite_values.Facts] (m : (ℓ : Loc Cert.KernelIdeal.nD Cert.KernelIdeal.τ Cert.KernelIdeal.sig) → Buf (Elt Ideal) ℓ) : Prop :=
  ∀ c : Dev Cert.KernelIdeal.nD,
    (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_values [hPre_finite_values : Cert.Pre_finite_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_values [hKernelIdeal : Cert.KernelIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_values [hReferenceIdeal : Cert.ReferenceIdeal.Facts] [hPre_finite_values : Cert.Pre_finite_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal_pre_finite_values [hKernelIdeal : Cert.KernelIdeal.Facts] [hReferenceIdeal : Cert.ReferenceIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  IdealRules.named_const.Statement Cert.Kernel2Ideal.κ "q_scale" .f32 0x3E38AA3B#32 (((8 * (Real.log 2))⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v43_0)) (v1 : (c : Dev Cert.Kernel2Ideal.nD) → Buf (Elt Ideal) ((c.tc : Thread Cert.Kernel2Ideal.nD Cert.Kernel2Ideal.τ).loc Cert.Kernel2Ideal.main_v43_1)) (v2 : (c : Dev Cert.Kernel2Ideal.nD) → Buf (Elt Ideal) ((c.tc : Thread Cert.Kernel2Ideal.nD Cert.Kernel2Ideal.τ).loc Cert.Kernel2Ideal.main_v43_2)) (v3 : (c : Dev Cert.Kernel2Ideal.nD) → Buf (Elt Ideal) ((c.tc : Thread Cert.Kernel2Ideal.nD Cert.Kernel2Ideal.τ).loc Cert.Kernel2Ideal.main_v43_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v43_0) = v0 c
          ∧ r.2.mem ((c.tc : Thread Cert.Kernel2Ideal.nD Cert.Kernel2Ideal.τ).loc Cert.Kernel2Ideal.main_v43_1) = v1 c
          ∧ r.2.mem ((c.tc : Thread Cert.Kernel2Ideal.nD Cert.Kernel2Ideal.τ).loc Cert.Kernel2Ideal.main_v43_2) = v2 c
          ∧ r.2.mem ((c.tc : Thread Cert.Kernel2Ideal.nD Cert.Kernel2Ideal.τ).loc Cert.Kernel2Ideal.main_v43_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v92) = v0 c
          ∧ r.2.mem ((c.tc : Thread Cert.Reference2Ideal.nD Cert.Reference2Ideal.τ).loc Cert.Reference2Ideal.main_v94) = v1 c
          ∧ r.2.mem ((c.tc : Thread Cert.Reference2Ideal.nD Cert.Reference2Ideal.τ).loc Cert.Reference2Ideal.main_v96) = v2 c
          ∧ r.2.mem ((c.tc : Thread Cert.Reference2Ideal.nD Cert.Reference2Ideal.τ).loc Cert.Reference2Ideal.main_v97) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_v32) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_values : Cert.Pre_finite_values.Facts),
    quiescent_Kernel (hKernel := hKernel)
    ∧ quiescent_KernelIdeal (hKernelIdeal := hKernelIdeal)
    ∧ quiescent_KernelIdeal_pre_finite_values (hKernelIdeal := hKernelIdeal) (hPre_finite_values := hPre_finite_values)
    ∧ quiescent_ReferenceIdeal (hReferenceIdeal := hReferenceIdeal)
    ∧ quiescent_ReferenceIdeal_pre_finite_values (hReferenceIdeal := hReferenceIdeal) (hPre_finite_values := hPre_finite_values)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_values (hKernelIdeal := hKernelIdeal) (hReferenceIdeal := hReferenceIdeal) (hPre_finite_values := hPre_finite_values)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_values.lean ====
abbrev S2x8192x512 : Shape := ⟨3, ![2, 8192, 512]⟩
abbrev S2x256x512 : Shape := ⟨3, ![2, 256, 512]⟩
abbrev S1x64 : Shape := ⟨2, ![1, 64]⟩
abbrev S1x128 : Shape := ⟨2, ![1, 128]⟩
abbrev S64 : Shape := ⟨1, ![64]⟩
abbrev S_ : Shape := ⟨0, ![]⟩

class Facts : Prop where
  shapeCasts_S1x64_S64 : S1x64.ShapeCasts S64
  reducesTo_S64_S_d0 : S64.ReducesTo [0] S_
  h_S_ : 0 < S_.numel
  bcast_S_S2x256x512 : S_.BroadcastsInDim S2x256x512 (![] : Fin 0 → Fin S2x256x512.rank)
  reducesTo_S2x256x512_S_d0_1_2 : S2x256x512.ReducesTo [0, 1, 2] S_
  bcast_S_S2x8192x512 : S_.BroadcastsInDim S2x8192x512 (![] : Fin 0 → Fin S2x8192x512.rank)
  reducesTo_S2x8192x512_S_d0_1_2 : S2x8192x512.ReducesTo [0, 1, 2] S_

variable [Facts]

def fn_part1 {F : FTy → Type} [FloatOps F] (main_v11 : FVec F S_ .f32) (main_v15 : IVec S_ 1) (main_v16 : FVec F S2x8192x512 .f32) (main_v17 : FVec F S2x8192x512 .f32) : IVec S_ 1 :=
  let main_v18 : IVec S2x8192x512 1 := cmpf .olt main_v16 main_v17
  let main_c_4 : IVec S_ 1 := constantI S_ 1 1#1
  let main_v19 : IVec S_ 1 := (fun x v => Host.reduce IntOp.andi x v reducesTo_S2x8192x512_S_d0_1_2 h_S_) main_v18 main_c_4
  let main_v20 : IVec S_ 1 := andi main_v15 main_v19
  let main_v21 : FVec F S_ .f32 := Host.absf main_v11
  let main_cst_5 : FVec F S_ .f32 := constant S_ .f32 0x7F800000#32
  let main_v22 : IVec S_ 1 := cmpf .olt main_v21 main_cst_5
  let main_v23 : IVec S_ 1 := andi main_v20 main_v22
  main_v23

def fn {F : FTy → Type} [FloatOps F] (main_arg0 : FVec F S2x8192x512 .f32) (main_arg1 : FVec F S2x256x512 .f32) (main_arg2 : FVec F S2x256x512 .f32) (main_arg3 : FVec F S2x8192x512 .f32) (main_arg4 : FVec F S2x8192x512 .f32) (main_arg5 : FVec F S1x64 .f32) (main_arg6 : FVec F S1x64 .f32) (main_arg7 : FVec F S1x64 .f32) (main_arg8 : FVec F S1x64 .f32) (main_arg9 : FVec F S1x128 .f32) : IVec S_ 1 :=
  let main_v0 : FVec F S64 .f32 := shapeCast S64 main_arg5 shapeCasts_S1x64_S64
  let main_v1 : FVec F S64 .f32 := shapeCast S64 main_arg6 shapeCasts_S1x64_S64
  let main_v2 : FVec F S64 .f32 := shapeCast S64 main_arg7 shapeCasts_S1x64_S64
  let main_v3 : FVec F S64 .f32 := shapeCast S64 main_arg8 shapeCasts_S1x64_S64
  let main_v4 : FVec F S64 .f32 := mulf main_v0 main_v1
  let main_cst : FVec F S_ .f32 := constant S_ .f32 0x00000000#32
  let main_v5 : FVec F S_ .f32 := (fun x v => Host.reduceAdd x v reducesTo_S64_S_d0 h_S_) main_v4 main_cst
  let main_v6 : FVec F S_ .f32 := Host.exp main_v5
  let main_v7 : FVec F S64 .f32 := mulf main_v2 main_v3
  let main_cst_0 : FVec F S_ .f32 := constant S_ .f32 0x00000000#32
  let main_v8 : FVec F S_ .f32 := (fun x v => Host.reduceAdd x v reducesTo_S64_S_d0 h_S_) main_v7 main_cst_0
  let main_v9 : FVec F S_ .f32 := Host.exp main_v8
  let main_v10 : FVec F S_ .f32 := subf main_v6 main_v9
  let main_cst_1 : FVec F S_ .f32 := constant S_ .f32 0x3E4CCCCD#32
  let main_v11 : FVec F S_ .f32 := addf main_v10 main_cst_1
  let main_v12 : FVec F S2x256x512 .f32 := Host.absf main_arg2
  let main_cst_2 : FVec F S_ .f32 := constant S_ .f32 0x7F800000#32
  let main_v13 : FVec F S2x256x512 .f32 := broadcastInDim S2x256x512 ![] bcast_S_S2x256x512 main_cst_2
  let main_v14 : IVec S2x256x512 1 := cmpf .olt main_v12 main_v13
  let main_c : IVec S_ 1 := constantI S_ 1 1#1
  let main_v15 : IVec S_ 1 := (fun x v => Host.reduce IntOp.andi x v reducesTo_S2x256x512_S_d0_1_2 h_S_) main_v14 main_c
  let main_v16 : FVec F S2x8192x512 .f32 := Host.absf main_arg4
  let main_cst_3 : FVec F S_ .f32 := constant S_ .f32 0x7F800000#32
  let main_v17 : FVec F S2x8192x512 .f32 := broadcastInDim S2x8192x512 ![] bcast_S_S2x8192x512 main_cst_3
  fn_part1 (F := F) main_v11 main_v15 main_v16 main_v17
-- ==== Kernel.lean ====
abbrev S2x8192x512 : Shape := ⟨3, ![2, 8192, 512]⟩
abbrev S2x256x512 : Shape := ⟨3, ![2, 256, 512]⟩
abbrev S1x64 : Shape := ⟨2, ![1, 64]⟩
abbrev S1x128 : Shape := ⟨2, ![1, 128]⟩
abbrev S_ : Shape := ⟨0, ![]⟩
abbrev S64 : Shape := ⟨1, ![64]⟩
abbrev S4x64 : Shape := ⟨2, ![4, 64]⟩
abbrev S128 : Shape := ⟨1, ![128]⟩
abbrev S196608x128 : Shape := ⟨2, ![196608, 128]⟩
abbrev S1x1024x128 : Shape := ⟨3, ![1, 1024, 128]⟩
abbrev S1x256x128 : Shape := ⟨3, ![1, 256, 128]⟩
abbrev S1x8192x128 : Shape := ⟨3, ![1, 8192, 128]⟩
abbrev S3072x128 : Shape := ⟨2, ![3072, 128]⟩
abbrev S2x1024x128 : Shape := ⟨3, ![2, 1024, 128]⟩
abbrev S1024x128 : Shape := ⟨2, ![1024, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩
abbrev S1x2048x128 : Shape := ⟨3, ![1, 2048, 128]⟩
abbrev S2048x128 : Shape := ⟨2, ![2048, 128]⟩
abbrev S1024x2048 : Shape := ⟨2, ![1024, 2048]⟩
abbrev S1 : Shape := ⟨1, ![1]⟩
abbrev S1x1 : Shape := ⟨2, ![1, 1]⟩

abbrev nBuf : Space → Nat
  | .hbm => 34
  | .vmem => 19
  | .smem => 0
  | _ => 0

abbrev bufTy : (tb : Table) → Fin (tcTables nBuf tb) → BufTy
  | .hbm, ⟨0, _⟩ => ⟨S2x8192x512, .f32⟩
  | .hbm, ⟨1, _⟩ => ⟨S2x256x512, .f32⟩
  | .hbm, ⟨2, _⟩ => ⟨S2x256x512, .f32⟩
  | .hbm, ⟨3, _⟩ => ⟨S2x8192x512, .f32⟩
  | .hbm, ⟨4, _⟩ => ⟨S2x8192x512, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S2x8192x512, .f32⟩
  | .hbm, ⟨15, _⟩ => ⟨S2x8192x512, .f32⟩
  | .hbm, ⟨16, _⟩ => ⟨S2x8192x512, .bf16⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S4x64, .f32⟩
  | .hbm, ⟨26, _⟩ => ⟨S2x256x512, .bf16⟩
  | .hbm, ⟨27, _⟩ => ⟨S2x256x512, .bf16⟩
  | .hbm, ⟨28, _⟩ => ⟨S2x8192x512, .bf16⟩
  | .hbm, ⟨29, _⟩ => ⟨S2x8192x512, .bf16⟩
  | .hbm, ⟨30, _⟩ => ⟨S128, .f32⟩
  | .hbm, ⟨31, _⟩ => ⟨S1x128, .f32⟩
  | .hbm, ⟨32, _⟩ => ⟨S2x8192x512, .bf16⟩
  | .hbm, ⟨33, _⟩ => ⟨S196608x128, .i32⟩
  | .local _ .vmem, ⟨0, _⟩ => ⟨S1x1024x128, .bf16⟩
  | .local _ .vmem, ⟨1, _⟩ => ⟨S1x1024x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x8192x128, .bf16⟩
  | .local _ .vmem, ⟨7, _⟩ => ⟨S1x8192x128, .bf16⟩
  | .local _ .vmem, ⟨8, _⟩ => ⟨S1x8192x128, .bf16⟩
  | .local _ .vmem, ⟨9, _⟩ => ⟨S1x8192x128, .bf16⟩
  | .local _ .vmem, ⟨10, _⟩ => ⟨S4x64, .f32⟩
  | .local _ .vmem, ⟨11, _⟩ => ⟨S1x128, .f32⟩
  | .local _ .vmem, ⟨12, _⟩ => ⟨S1x1024x128, .bf16⟩
  | .local _ .vmem, ⟨13, _⟩ => ⟨S1x1024x128, .bf16⟩
  | .local _ .vmem, ⟨14, _⟩ => ⟨S3072x128, .i32⟩
  | .local _ .vmem, ⟨15, _⟩ => ⟨S3072x128, .i32⟩
  | .local _ .vmem, ⟨16, _⟩ => ⟨S2x1024x128, .f32⟩
  | .local _ .vmem, ⟨17, _⟩ => ⟨S2x1024x128, .f32⟩
  | .local _ .vmem, ⟨18, _⟩ => ⟨S2x1024x128, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![2, 4, 8], ![false, false, false]⟩

@[reducible] def k0_t1_loop : Scf.Loop 32 :=
  let c0_i32 : BitVec 32 := 0#32
  let c4_i32 : BitVec 32 := 4#32
  let v94 : BitVec 32 := Scalar.addi c0_i32 c4_i32
  let c1_i32 : BitVec 32 := 1#32
  ⟨c0_i32, v94, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c2048_i32 : BitVec 32 := 2048#32
  let v153 : BitVec 32 := Scalar.muli arg15 c2048_i32
  v153
def k0_off1 (k0_t1 : Fin k0_t1_loop.trips) : Fin 3 → Nat :=
  let c0_94 : Index := 0#32
  let c0_i32 : BitVec 32 := 0#32
  let c1_i32 : BitVec 32 := 1#32
  let arg15 : BitVec 32 := Scf.iv c0_i32 c1_i32 k0_t1
  let c2048_i32 : BitVec 32 := 2048#32
  let v153 : BitVec 32 := Scalar.muli arg15 c2048_i32
  let v154 : BitVec 32 := v153
  let v155 : Index := Scalar.indexCast v154
  let c0_95 : Index := 0#32
  ![0, v155.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S3072x128 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S2x8192x512 : Shape := ⟨3, ![2, 8192, 512]⟩
abbrev S2x256x512 : Shape := ⟨3, ![2, 256, 512]⟩
abbrev S1x64 : Shape := ⟨2, ![1, 64]⟩
abbrev S1x128 : Shape := ⟨2, ![1, 128]⟩
abbrev S64 : Shape := ⟨1, ![64]⟩
abbrev S_ : Shape := ⟨0, ![]⟩
abbrev S2x8192x4x2x64 : Shape := ⟨5, ![2, 8192, 4, 2, 64]⟩
abbrev S2x256x4x2x64 : Shape := ⟨5, ![2, 256, 4, 2, 64]⟩
abbrev S2x8448x4x2x64 : Shape := ⟨5, ![2, 8448, 4, 2, 64]⟩
abbrev S2x256x4x128 : Shape := ⟨4, ![2, 256, 4, 128]⟩
abbrev S2x8192x4x128 : Shape := ⟨4, ![2, 8192, 4, 128]⟩
abbrev S2x8448x4x128 : Shape := ⟨4, ![2, 8448, 4, 128]⟩
abbrev S2x4x2x8192x8448 : Shape := ⟨5, ![2, 4, 2, 8192, 8448]⟩
abbrev S2x4x2x8192 : Shape := ⟨4, ![2, 4, 2, 8192]⟩
abbrev S2x4x2x8192x1 : Shape := ⟨5, ![2, 4, 2, 8192, 1]⟩
abbrev S2x4x1x8192x8448 : Shape := ⟨5, ![2, 4, 1, 8192, 8448]⟩
abbrev S2x4x8192x8448 : Shape := ⟨4, ![2, 4, 8192, 8448]⟩
abbrev S2x4x128x8192 : Shape := ⟨4, ![2, 4, 128, 8192]⟩
abbrev S128 : Shape := ⟨1, ![128]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩
abbrev S196608x128 : Shape := ⟨2, ![196608, 128]⟩

abbrev nBuf : Space → Nat
  | .hbm => 83
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x256x512, .f32⟩
  | .hbm, ⟨2, _⟩ => ⟨S2x256x512, .f32⟩
  | .hbm, ⟨3, _⟩ => ⟨S2x8192x512, .f32⟩
  | .hbm, ⟨4, _⟩ => ⟨S2x8192x512, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2x8192x4x2x64, .f32⟩
  | .hbm, ⟨26, _⟩ => ⟨S2x256x4x2x64, .f32⟩
  | .hbm, ⟨27, _⟩ => ⟨S2x8192x4x2x64, .f32⟩
  | .hbm, ⟨28, _⟩ => ⟨S2x8448x4x2x64, .f32⟩
  | .hbm, ⟨29, _⟩ => ⟨S2x256x4x128, .f32⟩
  | .hbm, ⟨30, _⟩ => ⟨S2x8192x4x128, .f32⟩
  | .hbm, ⟨31, _⟩ => ⟨S2x8448x4x128, .f32⟩
  | .hbm, ⟨32, _⟩ => ⟨S2x4x2x8192x8448, .f32⟩
  | .hbm, ⟨33, _⟩ => ⟨S_, .f32⟩
  | .hbm, ⟨34, _⟩ => ⟨S2x4x2x8192x8448, .f32⟩
  | .hbm, ⟨35, _⟩ => ⟨S2x4x2x8192x8448, .f32⟩
  | .hbm, ⟨36, _⟩ => ⟨S_, .f32⟩
  | .hbm, ⟨37, _⟩ => ⟨S2x4x2x8192, .f32⟩
  | .hbm, ⟨38, _⟩ => ⟨S_, .f32⟩
  | .hbm, ⟨39, _⟩ => ⟨S2x4x2x8192, .f32⟩
  | .hbm, ⟨40, _⟩ => ⟨S2x4x2x8192, .f32⟩
  | .hbm, ⟨41, _⟩ => ⟨S2x4x2x8192x1, .f32⟩
  | .hbm, ⟨42, _⟩ => ⟨S2x4x2x8192x8448, .f32⟩
  | .hbm, ⟨43, _⟩ => ⟨S2x4x2x8192x8448, .f32⟩
  | .hbm, ⟨44, _⟩ => ⟨S2x4x2x8192x8448, .f32⟩
  | .hbm, ⟨45, _⟩ => ⟨S_, .f32⟩
  | .hbm, ⟨46, _⟩ => ⟨S2x4x2x8192, .f32⟩
  | .hbm, ⟨47, _⟩ => ⟨S2x4x2x8192x1, .f32⟩
  | .hbm, ⟨48, _⟩ => ⟨S2x4x2x8192x8448, .f32⟩
  | .hbm, ⟨49, _⟩ => ⟨S2x4x2x8192x8448, .f32⟩
  | .hbm, ⟨50, _⟩ => ⟨S2x4x1x8192x8448, .f32⟩
  | .hbm, ⟨51, _⟩ => ⟨S2x4x8192x8448, .f32⟩
  | .hbm, ⟨52, _⟩ => ⟨S2x4x1x8192x8448, .f32⟩
  | .hbm, ⟨53, _⟩ => ⟨S2x4x8192x8448, .f32⟩
  | .hbm, ⟨54, _⟩ => ⟨S2x4x8192x8448, .f32⟩
  | .hbm, ⟨55, _⟩ => ⟨S2x4x8192x8448, .f32⟩
  | .hbm, ⟨56, _⟩ => ⟨S2x4x8192x8448, .f32⟩
  | .hbm, ⟨57, _⟩ => ⟨S2x4x128x8192, .f32⟩
  | .hbm, ⟨58, _⟩ => ⟨S2x8192x4x128, .f32⟩
  | .hbm, ⟨59, _⟩ => ⟨S128, .f32⟩
  | .hbm, ⟨60, _⟩ => ⟨S2x8192x4x128, .f32⟩
  | .hbm, ⟨61, _⟩ => ⟨S_, .f32⟩
  | .hbm, ⟨62, _⟩ => ⟨S2x8192x4, .f32⟩
  | .hbm, ⟨63, _⟩ => ⟨S2x8192x4x1, .f32⟩
  | .hbm, ⟨64, _⟩ => ⟨S_, .f32⟩
  | .hbm, ⟨65, _⟩ => ⟨S2x8192x4x1, .f32⟩
  | .hbm, ⟨66, _⟩ => ⟨S2x8192x4x1, .f32⟩
  | .hbm, ⟨67, _⟩ => ⟨S_, .f32⟩
  | .hbm, ⟨68, _⟩ => ⟨S2x8192x4x1, .f32⟩
  | .hbm, ⟨69, _⟩ => ⟨S2x8192x4x1, .f32⟩
  | .hbm, ⟨70, _⟩ => ⟨S2x8192x4x1, .f32⟩
  | .hbm, ⟨71, _⟩ => ⟨S2x8192x4x128, .f32⟩
  | .hbm, ⟨72, _⟩ => ⟨S2x8192x4x128, .f32⟩
  | .hbm, ⟨73, _⟩ => ⟨S1x1x1x128, .f32⟩
  | .hbm, ⟨74, _⟩ => ⟨S2x8192x4x128, .f32⟩
  | .hbm, ⟨75, _⟩ => ⟨S2x8192x4x128, .f32⟩
  | .hbm, ⟨76, _⟩ => ⟨S_, .f32⟩
  | .hbm, ⟨77, _⟩ => ⟨S2x8192x4x128, .f32⟩
  | .hbm, ⟨78, _⟩ => ⟨S2x8192x4x128, .f32⟩
  | .hbm, ⟨79, _⟩ => ⟨S_, .i32⟩
  | .hbm, ⟨80, _⟩ => ⟨S196608x128, .i32⟩
  | .hbm, ⟨81, _⟩ => ⟨S2x8192x512, .f32⟩
  | .hbm, ⟨82, _⟩ => ⟨S2x8192x512, .bf16⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_v57 : Ref sig .tc := ⟨.hbm, 78, rfl⟩
abbrev main_c : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]
-- ==== Kernel2.lean ====
abbrev S2x8192x1024 : Shape := ⟨3, ![2, 8192, 1024]⟩
abbrev S8x6x1024 : Shape := ⟨3, ![8, 6, 1024]⟩
abbrev S1x1024 : Shape := ⟨2, ![1, 1024]⟩
abbrev S1x1024x2048 : Shape := ⟨3, ![1, 1024, 2048]⟩
abbrev S128 : Shape := ⟨1, ![128]⟩
abbrev S64 : Shape := ⟨1, ![64]⟩
abbrev S128x64 : Shape := ⟨2, ![128, 64]⟩
abbrev S8192 : Shape := ⟨1, ![8192]⟩
abbrev S8192x1 : Shape := ⟨2, ![8192, 1]⟩
abbrev S8192x2 : Shape := ⟨2, ![8192, 2]⟩
abbrev S16 : Shape := ⟨1, ![16]⟩
abbrev S_ : Shape := ⟨0, ![]⟩
abbrev S8192x2x1 : Shape := ⟨3, ![8192, 2, 1]⟩
abbrev S1x1x16 : Shape := ⟨3, ![1, 1, 16]⟩
abbrev S8192x2x16 : Shape := ⟨3, ![8192, 2, 16]⟩
abbrev S8192x2x32 : Shape := ⟨3, ![8192, 2, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1024 : Shape := ⟨1, ![1024]⟩
abbrev S1024x2048 : Shape := ⟨2, ![1024, 2048]⟩
abbrev S2x8192x512 : Shape := ⟨3, ![2, 8192, 512]⟩
abbrev S1x1024x1024 : Shape := ⟨3, ![1, 1024, 1024]⟩
abbrev S1x6x1024 : Shape := ⟨3, ![1, 6, 1024]⟩
abbrev S1024x128 : Shape := ⟨2, ![1024, 128]⟩
abbrev S1x1024x512 : Shape := ⟨3, ![1, 1024, 512]⟩
abbrev S6x1024 : Shape := ⟨2, ![6, 1024]⟩
abbrev S1024x1024 : Shape := ⟨2, ![1024, 1024]⟩
abbrev S1024x1 : Shape := ⟨2, ![1024, 1]⟩
abbrev S1024x512 : Shape := ⟨2, ![1024, 512]⟩
abbrev S1x1024x128 : Shape := ⟨3, ![1, 1024, 128]⟩

abbrev nBuf : Space → Nat
  | .hbm => 62
  | .vmem => 20
  | .smem => 0
  | _ => 0

abbrev bufTy : (tb : Table) → Fin (tcTables nBuf tb) → BufTy
  | .hbm, ⟨0, _⟩ => ⟨S2x8192x1024, .f32⟩
  | .hbm, ⟨1, _⟩ => ⟨S8x6x1024, .f32⟩
  | .hbm, ⟨2, _⟩ => ⟨S1x1024, .f32⟩
  | .hbm, ⟨3, _⟩ => ⟨S1x1024x2048, .f32⟩
  | .hbm, ⟨4, _⟩ => ⟨S128, .i1⟩
  | .hbm, ⟨5, _⟩ => ⟨S128, .i32⟩
  | .hbm, ⟨6, _⟩ => ⟨S64, .i32⟩
  | .hbm, ⟨7, _⟩ => ⟨S128x64, .i32⟩
  | .hbm, ⟨8, _⟩ => ⟨S128x64, .i32⟩
  | .hbm, ⟨9, _⟩ => ⟨S8192, .i32⟩
  | .hbm, ⟨10, _⟩ => ⟨S8192, .i32⟩
  | .hbm, ⟨11, _⟩ => ⟨S8192x1, .i32⟩
  | .hbm, ⟨12, _⟩ => ⟨S8192x1, .i32⟩
  | .hbm, ⟨13, _⟩ => ⟨S8192x2, .i32⟩
  | .hbm, ⟨14, _⟩ => ⟨S8192x2, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S8192x2x1, .f32⟩
  | .hbm, ⟨30, _⟩ => ⟨S1x1x16, .f32⟩
  | .hbm, ⟨31, _⟩ => ⟨S8192x2x16, .f32⟩
  | .hbm, ⟨32, _⟩ => ⟨S8192x2x16, .f32⟩
  | .hbm, ⟨33, _⟩ => ⟨S8192x2x16, .f32⟩
  | .hbm, ⟨34, _⟩ => ⟨S8192x2x32, .f32⟩
  | .hbm, ⟨35, _⟩ => ⟨S8192x2x32, .f32⟩
  | .hbm, ⟨36, _⟩ => ⟨S8192x64, .f32⟩
  | .hbm, ⟨37, _⟩ => ⟨S1x8192x1x64, .f32⟩
  | .hbm, ⟨38, _⟩ => ⟨S1x8192x2x64, .f32⟩
  | .hbm, ⟨39, _⟩ => ⟨S8192x128, .f32⟩
  | .hbm, ⟨40, _⟩ => ⟨S8192x2x32, .f32⟩
  | .hbm, ⟨41, _⟩ => ⟨S8192x64, .f32⟩
  | .hbm, ⟨42, _⟩ => ⟨S1x8192x1x64, .f32⟩
  | .hbm, ⟨43, _⟩ => ⟨S1x8192x2x64, .f32⟩
  | .hbm, ⟨44, _⟩ => ⟨S8192x128, .f32⟩
  | .hbm, ⟨45, _⟩ => ⟨S_, .f32⟩
  | .hbm, ⟨46, _⟩ => ⟨S8192x128, .i1⟩
  | .hbm, ⟨47, _⟩ => ⟨S8192x128, .f32⟩
  | .hbm, ⟨48, _⟩ => ⟨S8192x128, .f32⟩
  | .hbm, ⟨49, _⟩ => ⟨S8192x128, .f32⟩
  | .hbm, ⟨50, _⟩ => ⟨S_, .f32⟩
  | .hbm, ⟨51, _⟩ => ⟨S8192x128, .i1⟩
  | .hbm, ⟨52, _⟩ => ⟨S8192x128, .f32⟩
  | .hbm, ⟨53, _⟩ => ⟨S8192x128, .f32⟩
  | .hbm, ⟨54, _⟩ => ⟨S1024, .f32⟩
  | .hbm, ⟨55, _⟩ => ⟨S1x1024, .f32⟩
  | .hbm, ⟨56, _⟩ => ⟨S1024x2048, .f32⟩
  | .hbm, ⟨57, _⟩ => ⟨S1024x2048, .bf16⟩
  | .hbm, ⟨58, _⟩ => ⟨S2x8192x512, .bf16⟩
  | .hbm, ⟨59, _⟩ => ⟨S2x8192x512, .bf16⟩
  | .hbm, ⟨60, _⟩ => ⟨S2x8192x512, .bf16⟩
  | .hbm, ⟨61, _⟩ => ⟨S2x8192x512, .f32⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2048, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x1024x512, .bf16⟩
  | .local _ .vmem, ⟨18, _⟩ => ⟨S1x1024x512, .f32⟩
  | .local _ .vmem, ⟨19, _⟩ => ⟨S1x1024x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_call0_v0 : Ref sig .tc := ⟨.hbm, 46, rfl⟩
abbrev main_call0_v1 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_call1_v0 : Ref sig .tc := ⟨.hbm, 51, rfl⟩
abbrev main_call1_v1 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43_0 : Ref sig .tc := ⟨.hbm, 58, rfl⟩
abbrev main_v43_1 : Ref sig .tc := ⟨.hbm, 59, rfl⟩
abbrev main_v43_2 : Ref sig .tc := ⟨.hbm, 60, rfl⟩
abbrev main_v43_3 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel2Ideal.lean ====
variable {F : FTy → Type} [FloatOps F] [Named F]
def κ : String → Option EReal := fun
  | "q_scale" => some (((8 * (Real.log 2))⁻¹ : ℝ) : EReal)
  | _ => none
-- ==== Reference2Ideal.lean ====
abbrev S2x8192x1024 : Shape := ⟨3, ![2, 8192, 1024]⟩
abbrev S8x6x1024 : Shape := ⟨3, ![8, 6, 1024]⟩
abbrev S1x1024 : Shape := ⟨2, ![1, 1024]⟩
abbrev S1x1024x2048 : Shape := ⟨3, ![1, 1024, 2048]⟩
abbrev S128 : Shape := ⟨1, ![128]⟩
abbrev S64 : Shape := ⟨1, ![64]⟩
abbrev S128x64 : Shape := ⟨2, ![128, 64]⟩
abbrev S8192 : Shape := ⟨1, ![8192]⟩
abbrev S8192x1 : Shape := ⟨2, ![8192, 1]⟩
abbrev S8192x2 : Shape := ⟨2, ![8192, 2]⟩
abbrev S16 : Shape := ⟨1, ![16]⟩
abbrev S_ : Shape := ⟨0, ![]⟩
abbrev S8192x2x1 : Shape := ⟨3, ![8192, 2, 1]⟩
abbrev S1x1x16 : Shape := ⟨3, ![1, 1, 16]⟩
abbrev S8192x2x16 : Shape := ⟨3, ![8192, 2, 16]⟩
abbrev S8192x2x32 : Shape := ⟨3, ![8192, 2, 32]⟩
abbrev S2x1x1024 : Shape := ⟨3, ![2, 1, 1024]⟩
abbrev S2x1024 : Shape := ⟨2, ![2, 1024]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩
abbrev S1024x2048 : Shape := ⟨2, ![1024, 2048]⟩
abbrev S2x8192x2048 : Shape := ⟨3, ![2, 8192, 2048]⟩
abbrev S2x8192x512 : Shape := ⟨3, ![2, 8192, 512]⟩
abbrev S2x8192x4x2x64 : Shape := ⟨5, ![2, 8192, 4, 2, 64]⟩
abbrev S2x8192x4x2x2x32 : Shape := ⟨6, ![2, 8192, 4, 2, 2, 32]⟩
abbrev S2x8192x4x2x2x16 : Shape := ⟨6, ![2, 8192, 4, 2, 2, 16]⟩
abbrev S1x8192x1x1x2x32 : Shape := ⟨6, ![1, 8192, 1, 1, 2, 32]⟩

abbrev nBuf : Space → Nat
  | .hbm => 112
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S8x6x1024, .f32⟩
  | .hbm, ⟨2, _⟩ => ⟨S1x1024, .f32⟩
  | .hbm, ⟨3, _⟩ => ⟨S1x1024x2048, .f32⟩
  | .hbm, ⟨4, _⟩ => ⟨S128, .i32⟩
  | .hbm, ⟨5, _⟩ => ⟨S64, .i32⟩
  | .hbm, ⟨6, _⟩ => ⟨S128x64, .i32⟩
  | .hbm, ⟨7, _⟩ => ⟨S128x64, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S8192x1, .i32⟩
  | .hbm, ⟨12, _⟩ => ⟨S8192x2, .i32⟩
  | .hbm, ⟨13, _⟩ => ⟨S8192x2, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S8192x2x1, .f32⟩
  | .hbm, ⟨29, _⟩ => ⟨S1x1x16, .f32⟩
  | .hbm, ⟨30, _⟩ => ⟨S8192x2x16, .f32⟩
  | .hbm, ⟨31, _⟩ => ⟨S8192x2x16, .f32⟩
  | .hbm, ⟨32, _⟩ => ⟨S8192x2x16, .f32⟩
  | .hbm, ⟨33, _⟩ => ⟨S8192x2x32, .f32⟩
  | .hbm, ⟨34, _⟩ => ⟨S8192x2x32, .f32⟩
  | .hbm, ⟨35, _⟩ => ⟨S8192x2x32, .f32⟩
  | .hbm, ⟨36, _⟩ => ⟨S2x1x1024, .f32⟩
  | .hbm, ⟨37, _⟩ => ⟨S2x1024, .f32⟩
  | .hbm, ⟨38, _⟩ => ⟨S2x1x1024, .f32⟩
  | .hbm, ⟨39, _⟩ => ⟨S2x1x1024, .f32⟩
  | .hbm, ⟨40, _⟩ => ⟨S2x1024, .f32⟩
  | .hbm, ⟨41, _⟩ => ⟨S2x1x1024, .f32⟩
  | .hbm, ⟨42, _⟩ => ⟨S1024, .f32⟩
  | .hbm, ⟨43, _⟩ => ⟨S2x8192x1024, .f32⟩
  | .hbm, ⟨44, _⟩ => ⟨S_, .f32⟩
  | .hbm, ⟨45, _⟩ => ⟨S2x8192, .f32⟩
  | .hbm, ⟨46, _⟩ => ⟨S2x8192x1, .f32⟩
  | .hbm, ⟨47, _⟩ => ⟨S_, .f32⟩
  | .hbm, ⟨48, _⟩ => ⟨S2x8192x1, .f32⟩
  | .hbm, ⟨49, _⟩ => ⟨S2x8192x1, .f32⟩
  | .hbm, ⟨50, _⟩ => ⟨S_, .f32⟩
  | .hbm, ⟨51, _⟩ => ⟨S2x8192x1, .f32⟩
  | .hbm, ⟨52, _⟩ => ⟨S2x8192x1, .f32⟩
  | .hbm, ⟨53, _⟩ => ⟨S2x8192x1, .f32⟩
  | .hbm, ⟨54, _⟩ => ⟨S2x8192x1024, .f32⟩
  | .hbm, ⟨55, _⟩ => ⟨S2x8192x1024, .f32⟩
  | .hbm, ⟨56, _⟩ => ⟨S1x1x1024, .f32⟩
  | .hbm, ⟨57, _⟩ => ⟨S2x8192x1024, .f32⟩
  | .hbm, ⟨58, _⟩ => ⟨S2x8192x1024, .f32⟩
  | .hbm, ⟨59, _⟩ => ⟨S_, .f32⟩
  | .hbm, ⟨60, _⟩ => ⟨S2x1x1024, .f32⟩
  | .hbm, ⟨61, _⟩ => ⟨S2x1x1024, .f32⟩
  | .hbm, ⟨62, _⟩ => ⟨S2x8192x1024, .f32⟩
  | .hbm, ⟨63, _⟩ => ⟨S2x8192x1024, .f32⟩
  | .hbm, ⟨64, _⟩ => ⟨S2x8192x1024, .f32⟩
  | .hbm, ⟨65, _⟩ => ⟨S2x8192x1024, .f32⟩
  | .hbm, ⟨66, _⟩ => ⟨S1024x2048, .f32⟩
  | .hbm, ⟨67, _⟩ => ⟨S2x8192x2048, .f32⟩
  | .hbm, ⟨68, _⟩ => ⟨S2x8192x512, .f32⟩
  | .hbm, ⟨69, _⟩ => ⟨S2x8192x4x2x64, .f32⟩
  | .hbm, ⟨70, _⟩ => ⟨S2x8192x4x2x2x32, .f32⟩
  | .hbm, ⟨71, _⟩ => ⟨S2x8192x4x2x2x16, .f32⟩
  | .hbm, ⟨72, _⟩ => ⟨S2x8192x4x2x2x16, .f32⟩
  | .hbm, ⟨73, _⟩ => ⟨S2x8192x4x2x2x16, .f32⟩
  | .hbm, ⟨74, _⟩ => ⟨S2x8192x4x2x2x32, .f32⟩
  | .hbm, ⟨75, _⟩ => ⟨S1x8192x1x1x2x32, .f32⟩
  | .hbm, ⟨76, _⟩ => ⟨S1x8192x1x1x2x32, .f32⟩
  | .hbm, ⟨77, _⟩ => ⟨S2x8192x4x2x2x32, .f32⟩
  | .hbm, ⟨78, _⟩ => ⟨S2x8192x4x2x2x32, .f32⟩
  | .hbm, ⟨79, _⟩ => ⟨S2x8192x4x2x2x32, .f32⟩
  | .hbm, ⟨80, _⟩ => ⟨S2x8192x4x2x2x32, .f32⟩
  | .hbm, ⟨81, _⟩ => ⟨S2x8192x4x2x2x32, .f32⟩
  | .hbm, ⟨82, _⟩ => ⟨S2x8192x4x2x64, .f32⟩
  | .hbm, ⟨83, _⟩ => ⟨S2x8192x512, .f32⟩
  | .hbm, ⟨84, _⟩ => ⟨S2x8192x4x2x64, .f32⟩
  | .hbm, ⟨85, _⟩ => ⟨S2x8192x4x2x2x32, .f32⟩
  | .hbm, ⟨86, _⟩ => ⟨S2x8192x4x2x2x16, .f32⟩
  | .hbm, ⟨87, _⟩ => ⟨S2x8192x4x2x2x16, .f32⟩
  | .hbm, ⟨88, _⟩ => ⟨S2x8192x4x2x2x16, .f32⟩
  | .hbm, ⟨89, _⟩ => ⟨S2x8192x4x2x2x32, .f32⟩
  | .hbm, ⟨90, _⟩ => ⟨S1x8192x1x1x2x32, .f32⟩
  | .hbm, ⟨91, _⟩ => ⟨S1x8192x1x1x2x32, .f32⟩
  | .hbm, ⟨92, _⟩ => ⟨S2x8192x4x2x2x32, .f32⟩
  | .hbm, ⟨93, _⟩ => ⟨S2x8192x4x2x2x32, .f32⟩
  | .hbm, ⟨94, _⟩ => ⟨S2x8192x4x2x2x32, .f32⟩
  | .hbm, ⟨95, _⟩ => ⟨S2x8192x4x2x2x32, .f32⟩
  | .hbm, ⟨96, _⟩ => ⟨S2x8192x4x2x2x32, .f32⟩
  | .hbm, ⟨97, _⟩ => ⟨S2x8192x4x2x64, .f32⟩
  | .hbm, ⟨98, _⟩ => ⟨S_, .f32⟩
  | .hbm, ⟨99, _⟩ => ⟨S2x8192x4x2x64, .f32⟩
  | .hbm, ⟨100, _⟩ => ⟨S2x8192x4x2x64, .f32⟩
  | .hbm, ⟨101, _⟩ => ⟨S_, .f32⟩
  | .hbm, ⟨102, _⟩ => ⟨S_, .f32⟩
  | .hbm, ⟨103, _⟩ => ⟨S2x8192x4x2x64, .f32⟩
  | .hbm, ⟨104, _⟩ => ⟨S2x8192x4x2x64, .f32⟩
  | .hbm, ⟨105, _⟩ => ⟨S2x8192x512, .f32⟩
  | .hbm, ⟨106, _⟩ => ⟨S2x8192x512, .bf16⟩
  | .hbm, ⟨107, _⟩ => ⟨S2x8192x512, .f32⟩
  | .hbm, ⟨108, _⟩ => ⟨S2x8192x512, .bf16⟩
  | .hbm, ⟨109, _⟩ => ⟨S2x8192x512, .f32⟩
  | .hbm, ⟨110, _⟩ => ⟨S2x8192x512, .bf16⟩
  | .hbm, ⟨111, _⟩ => ⟨S2x8192x512, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_cst_7 : Ref sig .tc := ⟨.hbm, 98, rfl⟩
abbrev main_v86 : Ref sig .tc := ⟨.hbm, 99, rfl⟩
abbrev main_v87 : Ref sig .tc := ⟨.hbm, 100, rfl⟩
abbrev main_cst_8 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩

abbrev nD : Nat := 1
abbrev τ : Topo := Topo.v7x

variable {F : FTy → Type} [FloatOps F]
-- ==== Kernel3.lean ====
abbrev S2x256x1024 : Shape := ⟨3, ![2, 256, 1024]⟩
abbrev S8x6x1024 : Shape := ⟨3, ![8, 6, 1024]⟩
abbrev S1x1024 : Shape := ⟨2, ![1, 1024]⟩
abbrev S1x1024x2048 : Shape := ⟨3, ![1, 1024, 2048]⟩
abbrev S1024 : Shape := ⟨1, ![1024]⟩
abbrev S1024x2048 : Shape := ⟨2, ![1024, 2048]⟩
abbrev S2x256x512 : Shape := ⟨3, ![2, 256, 512]⟩
abbrev S1x256x1024 : Shape := ⟨3, ![1, 256, 1024]⟩
abbrev S1x6x1024 : Shape := ⟨3, ![1, 6, 1024]⟩
abbrev S1x256x512 : Shape := ⟨3, ![1, 256, 512]⟩
abbrev S6x1024 : Shape := ⟨2, ![6, 1024]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩

abbrev nBuf : Space → Nat
  | .hbm => 10
  | .vmem => 9
  | .smem => 0
  | _ => 0

abbrev bufTy : (tb : Table) → Fin (tcTables nBuf tb) → BufTy
  | .hbm, ⟨0, _⟩ => ⟨S2x256x1024, .f32⟩
  | .hbm, ⟨1, _⟩ => ⟨S8x6x1024, .f32⟩
  | .hbm, ⟨2, _⟩ => ⟨S1x1024, .f32⟩
  | .hbm, ⟨3, _⟩ => ⟨S1x1024x2048, .f32⟩
  | .hbm, ⟨4, _⟩ => ⟨S1024, .f32⟩
  | .hbm, ⟨5, _⟩ => ⟨S1x1024, .f32⟩
  | .hbm, ⟨6, _⟩ => ⟨S1024x2048, .f32⟩
  | .hbm, ⟨7, _⟩ => ⟨S1024x2048, .bf16⟩
  | .hbm, ⟨8, _⟩ => ⟨S2x256x512, .bf16⟩
  | .hbm, ⟨9, _⟩ => ⟨S2x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x1024, .f32⟩
  | .local _ .vmem, ⟨4, _⟩ => ⟨S1024x2048, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S2x256x1024 : Shape := ⟨3, ![2, 256, 1024]⟩
abbrev S8x6x1024 : Shape := ⟨3, ![8, 6, 1024]⟩
abbrev S1x1024 : Shape := ⟨2, ![1, 1024]⟩
abbrev S1x1024x2048 : Shape := ⟨3, ![1, 1024, 2048]⟩
abbrev S1x1x1024 : Shape := ⟨3, ![1, 1, 1024]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1024x2048 : Shape := ⟨2, ![1024, 2048]⟩
abbrev S1024x1024 : Shape := ⟨2, ![1024, 1024]⟩
abbrev S2x256x512 : Shape := ⟨3, ![2, 256, 512]⟩

abbrev nBuf : Space → Nat
  | .hbm => 41
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S8x6x1024, .f32⟩
  | .hbm, ⟨2, _⟩ => ⟨S1x1024, .f32⟩
  | .hbm, ⟨3, _⟩ => ⟨S1x1024x2048, .f32⟩
  | .hbm, ⟨4, _⟩ => ⟨S1x1x1024, .f32⟩
  | .hbm, ⟨5, _⟩ => ⟨S1024, .f32⟩
  | .hbm, ⟨6, _⟩ => ⟨S1x1x1024, .f32⟩
  | .hbm, ⟨7, _⟩ => ⟨S1024, .f32⟩
  | .hbm, ⟨8, _⟩ => ⟨S1024, .f32⟩
  | .hbm, ⟨9, _⟩ => ⟨S2x256x1024, .f32⟩
  | .hbm, ⟨10, _⟩ => ⟨S_, .f32⟩
  | .hbm, ⟨11, _⟩ => ⟨S2x256, .f32⟩
  | .hbm, ⟨12, _⟩ => ⟨S2x256x1, .f32⟩
  | .hbm, ⟨13, _⟩ => ⟨S_, .f32⟩
  | .hbm, ⟨14, _⟩ => ⟨S2x256x1, .f32⟩
  | .hbm, ⟨15, _⟩ => ⟨S2x256x1, .f32⟩
  | .hbm, ⟨16, _⟩ => ⟨S_, .f32⟩
  | .hbm, ⟨17, _⟩ => ⟨S2x256x1, .f32⟩
  | .hbm, ⟨18, _⟩ => ⟨S2x256x1, .f32⟩
  | .hbm, ⟨19, _⟩ => ⟨S2x256x1, .f32⟩
  | .hbm, ⟨20, _⟩ => ⟨S2x256x1024, .f32⟩
  | .hbm, ⟨21, _⟩ => ⟨S2x256x1024, .f32⟩
  | .hbm, ⟨22, _⟩ => ⟨S1x1x1024, .f32⟩
  | .hbm, ⟨23, _⟩ => ⟨S2x256x1024, .f32⟩
  | .hbm, ⟨24, _⟩ => ⟨S2x256x1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1x1x1024, .f32⟩
  | .hbm, ⟨29, _⟩ => ⟨S2x256x1024, .f32⟩
  | .hbm, ⟨30, _⟩ => ⟨S2x256x1024, .f32⟩
  | .hbm, ⟨31, _⟩ => ⟨S1x1x1024, .f32⟩
  | .hbm, ⟨32, _⟩ => ⟨S2x256x1024, .f32⟩
  | .hbm, ⟨33, _⟩ => ⟨S2x256x1024, .f32⟩
  | .hbm, ⟨34, _⟩ => ⟨S1024x2048, .f32⟩
  | .hbm, ⟨35, _⟩ => ⟨S1024x1024, .f32⟩
  | .hbm, ⟨36, _⟩ => ⟨S2x256x1024, .f32⟩
  | .hbm, ⟨37, _⟩ => ⟨S2x256x512, .f32⟩
  | .hbm, ⟨38, _⟩ => ⟨S2x256x512, .bf16⟩
  | .hbm, ⟨39, _⟩ => ⟨S2x256x512, .f32⟩
  | .hbm, ⟨40, _⟩ => ⟨S2x256x512, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Kernel4.lean ====
abbrev S2x1024 : Shape := ⟨2, ![2, 1024]⟩
abbrev S1024 : Shape := ⟨1, ![1024]⟩
abbrev S1x1024x6144 : Shape := ⟨3, ![1, 1024, 6144]⟩
abbrev S1x6144 : Shape := ⟨2, ![1, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S1024x8 : Shape := ⟨2, ![1024, 8]⟩
abbrev S1024x6144 : Shape := ⟨2, ![1024, 6144]⟩
abbrev S6144 : Shape := ⟨1, ![6144]⟩
abbrev S8x6144 : Shape := ⟨2, ![8, 6144]⟩
abbrev S1024x1536 : Shape := ⟨2, ![1024, 1536]⟩
abbrev S1x1536 : Shape := ⟨2, ![1, 1536]⟩
abbrev S8x1536 : Shape := ⟨2, ![8, 1536]⟩
abbrev S1024x1 : Shape := ⟨2, ![1024, 1]⟩
abbrev S1536 : Shape := ⟨1, ![1536]⟩

abbrev nBuf : Space → Nat
  | .hbm => 13
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S1x1024x6144, .f32⟩
  | .hbm, ⟨3, _⟩ => ⟨S1x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S1024x8, .f32⟩
  | .hbm, ⟨9, _⟩ => ⟨S1024x6144, .f32⟩
  | .hbm, ⟨10, _⟩ => ⟨S6144, .f32⟩
  | .hbm, ⟨11, _⟩ => ⟨S1x6144, .f32⟩
  | .hbm, ⟨12, _⟩ => ⟨S8x6144, .f32⟩
  | .local _ .vmem, ⟨0, _⟩ => ⟨S1024x8, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S2x1024 : Shape := ⟨2, ![2, 1024]⟩
abbrev S1024 : Shape := ⟨1, ![1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S2x6144 : Shape := ⟨2, ![2, 6144]⟩
abbrev S6144 : Shape := ⟨1, ![6144]⟩
abbrev S5x6144 : Shape := ⟨2, ![5, 6144]⟩
abbrev S8x6144 : Shape := ⟨2, ![8, 6144]⟩

abbrev nBuf : Space → Nat
  | .hbm => 36
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S1x1024x6144, .f32⟩
  | .hbm, ⟨3, _⟩ => ⟨S1x6144, .f32⟩
  | .hbm, ⟨4, _⟩ => ⟨S2x1024, .f32⟩
  | .hbm, ⟨5, _⟩ => ⟨S2x1024, .f32⟩
  | .hbm, ⟨6, _⟩ => ⟨S_, .f32⟩
  | .hbm, ⟨7, _⟩ => ⟨S2x1024, .f32⟩
  | .hbm, ⟨8, _⟩ => ⟨S2x1024, .f32⟩
  | .hbm, ⟨9, _⟩ => ⟨S_, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S1024x6144, .f32⟩
  | .hbm, ⟨14, _⟩ => ⟨S2x6144, .f32⟩
  | .hbm, ⟨15, _⟩ => ⟨S6144, .f32⟩
  | .hbm, ⟨16, _⟩ => ⟨S1x6144, .f32⟩
  | .hbm, ⟨17, _⟩ => ⟨S2x6144, .f32⟩
  | .hbm, ⟨18, _⟩ => ⟨S2x6144, .f32⟩
  | .hbm, ⟨19, _⟩ => ⟨S1024, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S1024x6144, .f32⟩
  | .hbm, ⟨29, _⟩ => ⟨S6144, .f32⟩
  | .hbm, ⟨30, _⟩ => ⟨S6144, .f32⟩
  | .hbm, ⟨31, _⟩ => ⟨S6144, .f32⟩
  | .hbm, ⟨32, _⟩ => ⟨S1x6144, .f32⟩
  | .hbm, ⟨33, _⟩ => ⟨S_, .f32⟩
  | .hbm, ⟨34, _⟩ => ⟨S5x6144, .f32⟩
  | .hbm, ⟨35, _⟩ => ⟨S8x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_v14 : Ref sig .tc := ⟨.hbm, 35, rfl⟩

abbrev nD : Nat := 1
abbrev τ : Topo := Topo.v7x

variable {F : FTy → Type} [FloatOps F]
-- ==== Kernel5.lean ====
abbrev S2x64x128x512 : Shape := ⟨4, ![2, 64, 128, 512]⟩
abbrev S128x128 : Shape := ⟨2, ![128, 128]⟩
abbrev S2x128x64x512 : Shape := ⟨4, ![2, 128, 64, 512]⟩
abbrev S1x16x128x512 : Shape := ⟨4, ![1, 16, 128, 512]⟩
abbrev S1x128x16x512 : Shape := ⟨4, ![1, 128, 16, 512]⟩
abbrev S1x1x128x512 : Shape := ⟨4, ![1, 1, 128, 512]⟩
abbrev S128x512 : Shape := ⟨2, ![128, 512]⟩
abbrev S1x128x1x512 : Shape := ⟨4, ![1, 128, 1, 512]⟩

abbrev nBuf : Space → Nat
  | .hbm => 7
  | .vmem => 8
  | .smem => 0
  | _ => 0

abbrev bufTy : (tb : Table) → Fin (tcTables nBuf tb) → BufTy
  | .hbm, ⟨0, _⟩ => ⟨S2x64x128x512, .f32⟩
  | .hbm, ⟨1, _⟩ => ⟨S2x64x128x512, .f32⟩
  | .hbm, ⟨2, _⟩ => ⟨S128x128, .f32⟩
  | .hbm, ⟨3, _⟩ => ⟨S128x128, .f32⟩
  | .hbm, ⟨4, _⟩ => ⟨S128x128, .bf16⟩
  | .hbm, ⟨5, _⟩ => ⟨S128x128, .bf16⟩
  | .hbm, ⟨6, _⟩ => ⟨S2x128x64x512, .f32⟩
  | .local _ .vmem, ⟨0, _⟩ => ⟨S1x16x128x512, .f32⟩
  | .local _ .vmem, ⟨1, _⟩ => ⟨S1x16x128x512, .f32⟩
  | .local _ .vmem, ⟨2, _⟩ => ⟨S1x16x128x512, .f32⟩
  | .local _ .vmem, ⟨3, _⟩ => ⟨S1x16x128x512, .f32⟩
  | .local _ .vmem, ⟨4, _⟩ => ⟨S128x128, .bf16⟩
  | .local _ .vmem, ⟨5, _⟩ => ⟨S128x128, .bf16⟩
  | .local _ .vmem, ⟨6, _⟩ => ⟨S1x128x16x512, .f32⟩
  | .local _ .vmem, ⟨7, _⟩ => ⟨S1x128x16x512, .f32⟩
  | _, _ => ⟨S2x64x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x16x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S2x64x128x512 : Shape := ⟨4, ![2, 64, 128, 512]⟩
abbrev S128x128 : Shape := ⟨2, ![128, 128]⟩
abbrev S2x64x512x128 : Shape := ⟨4, ![2, 64, 512, 128]⟩
abbrev S2x128x64x512 : Shape := ⟨4, ![2, 128, 64, 512]⟩

abbrev nBuf : Space → Nat
  | .hbm => 10
  | .vmem => 0
  | .smem => 0
  | _ => 0

abbrev bufTy : (tb : Table) → Fin (tcTables nBuf tb) → BufTy
  | .hbm, ⟨0, _⟩ => ⟨S2x64x128x512, .f32⟩
  | .hbm, ⟨1, _⟩ => ⟨S2x64x128x512, .f32⟩
  | .hbm, ⟨2, _⟩ => ⟨S128x128, .f32⟩
  | .hbm, ⟨3, _⟩ => ⟨S128x128, .f32⟩
  | .hbm, ⟨4, _⟩ => ⟨S2x64x512x128, .f32⟩
  | .hbm, ⟨5, _⟩ => ⟨S2x64x128x512, .f32⟩
  | .hbm, ⟨6, _⟩ => ⟨S2x64x512x128, .f32⟩
  | .hbm, ⟨7, _⟩ => ⟨S2x64x128x512, .f32⟩
  | .hbm, ⟨8, _⟩ => ⟨S2x64x128x512, .f32⟩
  | .hbm, ⟨9, _⟩ => ⟨S2x128x64x512, .f32⟩
  | _, _ => ⟨S2x64x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel6.lean ====
abbrev S128x128 : Shape := ⟨2, ![128, 128]⟩
abbrev S1x4x128x128 : Shape := ⟨4, ![1, 4, 128, 128]⟩
abbrev S4x128x128 : Shape := ⟨3, ![4, 128, 128]⟩
abbrev S4x128x256 : Shape := ⟨3, ![4, 128, 256]⟩
abbrev S1x128x128 : Shape := ⟨3, ![1, 128, 128]⟩
abbrev S1x128x256 : Shape := ⟨3, ![1, 128, 256]⟩

abbrev nBuf : Space → Nat
  | .hbm => 5
  | .vmem => 6
  | .smem => 0
  | _ => 0

abbrev bufTy : (tb : Table) → Fin (tcTables nBuf tb) → BufTy
  | .hbm, ⟨0, _⟩ => ⟨S128x128, .f32⟩
  | .hbm, ⟨1, _⟩ => ⟨S128x128, .f32⟩
  | .hbm, ⟨2, _⟩ => ⟨S1x4x128x128, .f32⟩
  | .hbm, ⟨3, _⟩ => ⟨S4x128x128, .f32⟩
  | .hbm, ⟨4, _⟩ => ⟨S4x128x256, .bf16⟩
  | .local _ .vmem, ⟨0, _⟩ => ⟨S128x128, .f32⟩
  | .local _ .vmem, ⟨1, _⟩ => ⟨S128x128, .f32⟩
  | .local _ .vmem, ⟨2, _⟩ => ⟨S1x128x128, .f32⟩
  | .local _ .vmem, ⟨3, _⟩ => ⟨S1x128x128, .f32⟩
  | .local _ .vmem, ⟨4, _⟩ => ⟨S1x128x256, .bf16⟩
  | .local _ .vmem, ⟨5, _⟩ => ⟨S1x128x256, .bf16⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S128x128 : Shape := ⟨2, ![128, 128]⟩
abbrev S1x4x128x128 : Shape := ⟨4, ![1, 4, 128, 128]⟩
abbrev S4x128x128 : Shape := ⟨3, ![4, 128, 128]⟩
abbrev S4x128x256 : Shape := ⟨3, ![4, 128, 256]⟩

abbrev nBuf : Space → Nat
  | .hbm => 11
  | .vmem => 0
  | .smem => 0
  | _ => 0

abbrev bufTy : (tb : Table) → Fin (tcTables nBuf tb) → BufTy
  | .hbm, ⟨0, _⟩ => ⟨S128x128, .f32⟩
  | .hbm, ⟨1, _⟩ => ⟨S128x128, .f32⟩
  | .hbm, ⟨2, _⟩ => ⟨S1x4x128x128, .f32⟩
  | .hbm, ⟨3, _⟩ => ⟨S4x128x128, .f32⟩
  | .hbm, ⟨4, _⟩ => ⟨S4x128x128, .f32⟩
  | .hbm, ⟨5, _⟩ => ⟨S4x128x128, .f32⟩
  | .hbm, ⟨6, _⟩ => ⟨S4x128x128, .f32⟩
  | .hbm, ⟨7, _⟩ => ⟨S4x128x128, .f32⟩
  | .hbm, ⟨8, _⟩ => ⟨S4x128x128, .f32⟩
  | .hbm, ⟨9, _⟩ => ⟨S4x128x256, .f32⟩
  | .hbm, ⟨10, _⟩ => ⟨S4x128x256, .bf16⟩
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Softmax.lean ====
/- The mathematics of the attention over the extended reals, with no program in it: the running softmax in base two
   (a maximum raised block by block, the sums rescaled each time) against the plain softmax in base e, and the
   difference of two softmaxes after its normalisation by the root of the mean square. -/
module

public import Idealize.ShloMosaic.PureOps.Ideal
public import Idealize.ShloMosaic.PureOps.Ideal.Laws
public import Mathlib.Data.EReal.Inv
public import Mathlib.Algebra.BigOperators.Fin

@[expose] public section

noncomputable section

namespace Cert.Softmax

open Idealize.ShloMosaic

/-! ## Sums and the weights in base two -/

/-- A nonnegative finite factor moves into a sum of extended reals, whatever the terms. -/
theorem mul_sum_of_nonneg {ι : Type} (S : Finset ι) (f : ι → EReal) {c : EReal} (h0 : 0 ≤ c) (ht : c ≠ ⊤) :
    c * ∑ i ∈ S, f i = ∑ i ∈ S, c * f i := by
  classical
  induction S using Finset.induction_on with
  | empty => simp
  | insert a S ha ih =>
    rw [Finset.sum_insert ha, Finset.sum_insert ha, EReal.left_distrib_of_nonneg_of_ne_top h0 ht, ih]

/-- The sum of finite reals is the real sum. -/
theorem sum_coe {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- A power of two of a nonpositive exponent is a real in the unit interval. -/
theorem exp2_nonpos {x : EReal} (h : x ≤ 0) : ∃ r : ℝ, 0 ≤ r ∧ Ideal.exp2 x = (r : EReal) := by
  induction x with
  | bot => exact ⟨0, le_refl _, by simp⟩
  | top => exact absurd h (by simp)
  | coe a => exact ⟨Real.rpow 2 a, Real.rpow_nonneg (by norm_num) a, by simp⟩

/-- The distance to an upper bound that is not minus infinity is nonpositive. -/
theorem sub_nonpos_of_le {x m : EReal} (h : x ≤ m) (hm : m ≠ ⊥) : x - m ≤ 0 := by
  induction m with
  | bot => exact absurd rfl hm
  | top => rw [sub_eq_add_neg, EReal.neg_top, EReal.add_bot]; exact bot_le
  | coe b =>
    induction x with
    | bot => rw [sub_eq_add_neg, EReal.bot_add]; exact bot_le
    | top => exact absurd h (by simp)
    | coe a =>
      have : a ≤ b := EReal.coe_le_coe_iff.mp h
      rw [← EReal.coe_sub]
      exact_mod_cast sub_nonpos.mpr this

/-- The weight of a score under a bound `m` that is not minus infinity is a nonnegative real. -/
theorem weight_real {x m : EReal} (h : x ≤ m) (hm : m ≠ ⊥) : ∃ r : ℝ, 0 ≤ r ∧ Ideal.exp2 (x - m) = (r : EReal) :=
  exp2_nonpos (sub_nonpos_of_le h hm)

/-- Raising the bound from `m0` to `m1` multiplies every weight by the same factor. -/
theorem exp2_shift {x m0 m1 : EReal} (h : x ≤ m0) (h01 : m0 ≤ m1) (hm : m0 ≠ ⊥) :
    Ideal.exp2 (m0 - m1) * Ideal.exp2 (x - m0) = Ideal.exp2 (x - m1) := by
  have hsub : ∀ y : EReal, y - ⊤ = ⊥ := fun y => by rw [sub_eq_add_neg, EReal.neg_top, EReal.add_bot]
  induction m1 with
  | bot => exact absurd (le_bot_iff.mp h01) hm
  | top => rw [hsub, hsub, Ideal.exp2_bot, zero_mul]
  | coe b =>
    induction m0 with
    | bot => exact absurd rfl hm
    | top => exact absurd h01 (by simp)
    | coe a =>
      induction x with
      | bot => simp [sub_eq_add_neg]
      | top => exact absurd h (by simp)
      | coe c =>
        rw [← EReal.coe_sub, ← EReal.coe_sub, ← EReal.coe_sub, Ideal.exp2_coe, Ideal.exp2_coe, Ideal.exp2_coe, ← EReal.coe_mul]
        congr 1
        show (2 : ℝ) ^ (a - b) * (2 : ℝ) ^ (c - a) = (2 : ℝ) ^ (c - b)
        rw [← Real.rpow_add (by norm_num)]
        congr 1
        linarith

/-- Raising the bound rescales a whole weighted sum by that factor. -/
theorem rescale_sum {ι : Type} (S : Finset ι) (s v : ι → EReal) {m0 m1 : EReal} (h : ∀ i ∈ S, s i ≤ m0) (h01 : m0 ≤ m1)
    (hm : m0 ≠ ⊥) :
    Ideal.exp2 (m0 - m1) * ∑ i ∈ S, Ideal.exp2 (s i - m0) * v i = ∑ i ∈ S, Ideal.exp2 (s i - m1) * v i := by
  have hm1 : m1 ≠ ⊥ := fun e => hm (le_bot_iff.mp (e ▸ h01))
  obtain ⟨r, hr, he⟩ := weight_real h01 hm1
  rw [mul_sum_of_nonneg S _ (by rw [he]; exact_mod_cast hr) (by rw [he]; exact EReal.coe_ne_top r)]
  exact Finset.sum_congr rfl fun i hi => by rw [← mul_assoc, exp2_shift (h i hi) h01 hm]

/-- Raising the bound rescales a sum of weights by that factor. -/
theorem rescale_weights {ι : Type} (S : Finset ι) (s : ι → EReal) {m0 m1 : EReal} (h : ∀ i ∈ S, s i ≤ m0) (h01 : m0 ≤ m1)
    (hm : m0 ≠ ⊥) :
    Ideal.exp2 (m0 - m1) * ∑ i ∈ S, Ideal.exp2 (s i - m0) = ∑ i ∈ S, Ideal.exp2 (s i - m1) := by
  simpa using rescale_sum S s (fun _ => 1) h h01 hm

/-! ## The running maximum and the running sums -/

/-- The running maximum: a floor and the first `n` scores. -/
def runMax (c : EReal) (s : ℕ → EReal) (n : ℕ) : EReal := max c ((Finset.range n).sup s)

/-- The running weighted sum over the first `n` keys. -/
def runAcc (c : EReal) (s v : ℕ → EReal) (n : ℕ) : EReal :=
  ∑ k ∈ Finset.range n, Ideal.exp2 (s k - runMax c s n) * v k

/-- The running sum of weights of lane `j`: the keys `j, j + 128, …` of the first `B` blocks of 128, the running maximum that of all of them. -/
def runLane (c : EReal) (s : ℕ → EReal) (B j : ℕ) : EReal :=
  ∑ b ∈ Finset.range B, Ideal.exp2 (s (128 * b + j) - runMax c s (128 * B))

/-- Every score read so far is below the running maximum. -/
theorem le_runMax (c : EReal) (s : ℕ → EReal) {n k : ℕ} (h : k < n) : s k ≤ runMax c s n :=
  le_trans (Finset.le_sup (f := s) (Finset.mem_range.mpr h)) (le_max_right _ _)

/-- The running maximum stays above a floor that is not minus infinity. -/
theorem runMax_ne_bot {c : EReal} (hc : c ≠ ⊥) (s : ℕ → EReal) (n : ℕ) : runMax c s n ≠ ⊥ :=
  fun e => hc (le_bot_iff.mp (e ▸ le_max_left c _))

/-- A further block of `a` scores raises the running maximum by the block's own. -/
theorem runMax_add (c : EReal) (s : ℕ → EReal) (n a : ℕ) :
    runMax c s (n + a) = max (runMax c s n) ((Finset.range a).sup fun j => s (n + j)) := by
  unfold runMax
  rw [max_assoc]
  congr 1
  apply le_antisymm
  · refine Finset.sup_le fun k hk => ?_
    rcases lt_or_ge k n with h | h
    · exact le_trans (Finset.le_sup (f := s) (Finset.mem_range.mpr h)) (le_max_left _ _)
    · obtain ⟨j, rfl⟩ := Nat.exists_eq_add_of_le h
      refine le_trans ?_ (le_max_right _ _)
      exact Finset.le_sup (f := fun j => s (n + j)) (Finset.mem_range.mpr (by have := Finset.mem_range.mp hk; omega))
  · refine max_le (Finset.sup_le fun k hk => ?_) (Finset.sup_le fun j hj => ?_)
    · exact Finset.le_sup (f := s) (Finset.mem_range.mpr (by have := Finset.mem_range.mp hk; omega))
    · exact Finset.le_sup (f := s) (Finset.mem_range.mpr (by have := Finset.mem_range.mp hj; omega))

/-- The running maximum only rises. -/
theorem runMax_le_add (c : EReal) (s : ℕ → EReal) (n a : ℕ) : runMax c s n ≤ runMax c s (n + a) := by
  rw [runMax_add]; exact le_max_left _ _

/-- ONE STEP OF THE RUNNING WEIGHTED SUM: the old sum rescaled, the block's products added under the new maximum. -/
theorem runAcc_add {c : EReal} (hc : c ≠ ⊥) (s v : ℕ → EReal) (n a : ℕ) :
    Ideal.exp2 (runMax c s n - runMax c s (n + a)) * runAcc c s v n
      + ∑ j ∈ Finset.range a, Ideal.exp2 (s (n + j) - runMax c s (n + a)) * v (n + j) = runAcc c s v (n + a) := by
  unfold runAcc
  rw [rescale_sum _ s v (fun k hk => le_runMax c s (Finset.mem_range.mp hk)) (runMax_le_add c s n a) (runMax_ne_bot hc s n),
    Finset.sum_range_add (fun k => Ideal.exp2 (s k - runMax c s (n + a)) * v k)]

/-- ONE STEP OF A LANE'S RUNNING SUM OF WEIGHTS. -/
theorem runLane_add {c : EReal} (hc : c ≠ ⊥) (s : ℕ → EReal) (B A j : ℕ) (hj : j < 128) :
    Ideal.exp2 (runMax c s (128 * B) - runMax c s (128 * (B + A))) * runLane c s B j
      + ∑ b ∈ Finset.range A, Ideal.exp2 (s (128 * B + (128 * b + j)) - runMax c s (128 * (B + A))) = runLane c s (B + A) j := by
  unfold runLane
  rw [rescale_weights _ (fun b => s (128 * b + j)) (fun b hb => le_runMax c s (by have := Finset.mem_range.mp hb; omega))
      (by rw [Nat.mul_add]; exact runMax_le_add c s _ _) (runMax_ne_bot hc s _),
    Finset.sum_range_add (fun b => Ideal.exp2 (s (128 * b + j) - runMax c s (128 * (B + A))))]
  congr 1
  refine Finset.sum_congr rfl fun b _ => ?_
  rw [show 128 * B + (128 * b + j) = 128 * (B + b) + j from by omega]

/-- The 128 lanes together hold the sum of all the weights. -/
theorem sum_runLane (c : EReal) (s : ℕ → EReal) (B : ℕ) :
    ∑ j : Fin 128, runLane c s B j.val = ∑ k ∈ Finset.range (128 * B), Ideal.exp2 (s k - runMax c s (128 * B)) := by
  unfold runLane
  generalize runMax c s (128 * B) = m
  induction B with
  | zero => simp
  | succ B ih =>
    rw [Nat.mul_succ, Finset.sum_range_add, ← ih, ← Finset.sum_range (fun j => ∑ b ∈ Finset.range (B + 1), Ideal.exp2 (s (128 * b + j) - m)),
      ← Finset.sum_range (fun j => ∑ b ∈ Finset.range B, Ideal.exp2 (s (128 * b + j) - m)), ← Finset.sum_add_distrib]
    exact Finset.sum_congr rfl fun j _ => by rw [Finset.sum_range_succ]

/-- The maximum over a finite index, folded from minus infinity, is the supremum over the range. -/
theorem fold_max_fin (a : ℕ) (f : Fin a → EReal) (g : ℕ → EReal) (h : ∀ j : Fin a, f j = g j.val) :
    Finset.univ.fold max ⊥ f = (Finset.range a).sup g := by
  show Finset.univ.sup f = _
  apply le_antisymm
  · exact Finset.sup_le fun j _ => by rw [h]; exact Finset.le_sup (f := g) (Finset.mem_range.mpr j.isLt)
  · exact Finset.sup_le fun j hj => by
      rw [show g j = f ⟨j, Finset.mem_range.mp hj⟩ from (h ⟨j, Finset.mem_range.mp hj⟩).symm]
      exact Finset.le_sup (f := f) (Finset.mem_univ _)

/-! ## The plain softmax against the running one -/

/-- The natural logarithm of two, by which a score in base two becomes one in base e, is positive. -/
theorem log_two_pos : 0 < Real.log 2 := Real.log_pos (by norm_num)

/-- THE WEIGHTS OF THE TWO SOFTMAXES ARE PROPORTIONAL: scores `s` in base two under a bound `m`, scores `s' = s · log 2` in base e under
    their maximum `M`. Where a score is plus infinity, or all are minus infinity, every weight is zero on both sides. -/
theorem weights_proportional {ι : Type} (s s' : ι → EReal) (m M : EReal) (hs : ∀ k, s' k = s k * ((Real.log 2 : ℝ) : EReal))
    (hm : ∀ k, s k ≤ m) (hmb : m ≠ ⊥) (hmt : m = ⊤ → ∃ k, s k = ⊤) (hM : ∀ k, s' k ≤ M) (hMt : M = ⊤ → ∃ k, s' k = ⊤) :
    ∃ γ : ℝ, 0 < γ ∧ ∀ k, Ideal.exp (s' k - M) = (γ : EReal) * Ideal.exp2 (s k - m) := by
  have hsub : ∀ y : EReal, y - ⊤ = ⊥ := fun y => by rw [sub_eq_add_neg, EReal.neg_top, EReal.add_bot]
  have hl := log_two_pos
  have htop : ∀ k, s' k = ⊤ → s k = ⊤ := fun k h => by
    have := hs k
    rw [h] at this
    induction hx : s k with
    | bot => rw [hx, EReal.bot_mul_coe_of_pos hl] at this; exact absurd this (by simp)
    | top => rfl
    | coe a => rw [hx, ← EReal.coe_mul] at this; exact absurd this.symm (EReal.coe_ne_top _)
  have htop' : ∀ k, s k = ⊤ → s' k = ⊤ := fun k h => by rw [hs k, h, EReal.top_mul_coe_of_pos hl]
  have hbot : ∀ k, s k = ⊥ → s' k = ⊥ := fun k h => by rw [hs k, h, EReal.bot_mul_coe_of_pos hl]
  have hbot' : ∀ k, s' k = ⊥ → s k = ⊥ := fun k h => by
    have := hs k
    rw [h] at this
    induction hx : s k with
    | bot => rfl
    | top => rw [hx, EReal.top_mul_coe_of_pos hl] at this; exact absurd this (by simp)
    | coe a => rw [hx, ← EReal.coe_mul] at this; exact absurd this.symm (EReal.coe_ne_bot _)
  induction M with
  | bot =>
    refine ⟨1, one_pos, fun k => ?_⟩
    have h' : s' k = ⊥ := le_bot_iff.mp (hM k)
    have h := hbot' k h'
    rw [h', h, show (⊥ : EReal) - ⊥ = ⊥ from by rw [sub_eq_add_neg, EReal.bot_add],
      show (⊥ : EReal) - m = ⊥ from by rw [sub_eq_add_neg, EReal.bot_add], Ideal.exp_bot, Ideal.exp2_bot, mul_zero]
  | top =>
    obtain ⟨k0, hk0⟩ := hMt rfl
    have : m = ⊤ := top_le_iff.mp (htop k0 hk0 ▸ hm k0)
    exact ⟨1, one_pos, fun k => by rw [this, hsub, hsub, Ideal.exp_bot, Ideal.exp2_bot, mul_zero]⟩
  | coe B =>
    induction m with
    | bot => exact absurd rfl hmb
    | top =>
      obtain ⟨k0, hk0⟩ := hmt rfl
      exact absurd (hM k0) (by rw [htop' k0 hk0]; simp)
    | coe b =>
      refine ⟨Real.exp (b * Real.log 2 - B), Real.exp_pos _, fun k => ?_⟩
      induction hx : s k with
      | bot =>
        rw [hbot k hx, show (⊥ : EReal) - (B : EReal) = ⊥ from by rw [sub_eq_add_neg, EReal.bot_add],
          show (⊥ : EReal) - (b : EReal) = ⊥ from by rw [sub_eq_add_neg, EReal.bot_add], Ideal.exp_bot, Ideal.exp2_bot, mul_zero]
      | top => exact absurd (hm k) (by rw [hx]; simp)
      | coe a =>
        rw [hs k, hx, ← EReal.coe_mul, ← EReal.coe_sub, ← EReal.coe_sub, Ideal.exp_coe, Ideal.exp2_coe, ← EReal.coe_mul]
        congr 1
        show _ = _ * (2 : ℝ) ^ (a - b)
        rw [Real.rpow_def_of_pos (by norm_num), ← Real.exp_add]
        congr 1
        linarith

/-! ## A quotient by a sum of weights -/

/-- Zero over zero is minus infinity here. -/
theorem div_zero_zero : Ideal.div 0 0 = ⊥ := by unfold Ideal.div; simp

/-- A quotient of reals by a real that is not zero. -/
theorem div_coe_coe {y : ℝ} (h : y ≠ 0) (x : ℝ) : Ideal.div (x : EReal) (y : EReal) = ((x / y : ℝ) : EReal) := by
  rw [Ideal.div_coe h, ← EReal.coe_mul]
  congr 1
  rw [mul_one_div]

/-- The values that a lane normalised by the root of the mean square forgets: zero and the infinities. -/
def Degenerate (x : EReal) : Prop := x = 0 ∨ x = ⊤ ∨ x = ⊥

/-- A sum of degenerate values is degenerate. -/
theorem degenerate_sum {ι : Type} (S : Finset ι) (f : ι → EReal) (h : ∀ i ∈ S, Degenerate (f i)) : Degenerate (∑ i ∈ S, f i) := by
  classical
  induction S using Finset.induction_on with
  | empty => left; simp
  | insert a S ha ih =>
    rw [Finset.sum_insert ha]
    have h2 := ih fun i hi => h i (Finset.mem_insert_of_mem hi)
    rcases h a (Finset.mem_insert_self a S) with e | e | e <;> rcases h2 with e2 | e2 | e2 <;> rw [e, e2] <;> simp [Degenerate]

/-- An infinity times a real is degenerate. -/
theorem degenerate_mul_coe {x : EReal} (h : x = ⊤ ∨ x = ⊥) (v : ℝ) : Degenerate ((v : EReal) * x) := by
  rcases lt_trichotomy v 0 with hv | hv | hv
  · rcases h with rfl | rfl
    · right; right; exact EReal.coe_mul_top_of_neg hv
    · right; left; exact EReal.coe_mul_bot_of_neg hv
  · left; rw [hv]; simp
  · rcases h with rfl | rfl
    · right; left; exact EReal.coe_mul_top_of_pos hv
    · right; right; exact EReal.coe_mul_bot_of_pos hv

/-- A lane of degenerate values, normalised by the root of the mean square, is zero. -/
theorem rms_degenerate {ι : Type} [Fintype ι] (o : ι → EReal) (h : ∀ i, Degenerate (o i)) {n e : ℝ} (hn : 0 < n) (i : ι) :
    o i * Ideal.rsqrt (Ideal.div (∑ j, o j * o j) (n : EReal) + (e : EReal)) = 0 := by
  classical
  by_cases hi : o i = 0
  · rw [hi, zero_mul]
  · have hsq : ∀ j, o j * o j = 0 ∨ o j * o j = ⊤ := fun j => by
      rcases h j with e | e | e <;> rw [e] <;> simp
    have hii : o i * o i = ⊤ := by
      rcases h i with e | e | e
      · exact absurd e hi
      · rw [e]; simp
      · rw [e]; simp
    have hsum : ∑ j, o j * o j = ⊤ := by
      refine top_le_iff.mp ?_
      rw [← hii]
      exact Finset.single_le_sum (f := fun j => o j * o j) (fun j _ => by rcases hsq j with e | e <;> simp [e]) (Finset.mem_univ i)
    rw [hsum, Ideal.div_coe hn.ne', EReal.top_mul_coe_of_pos (by positivity), EReal.top_add_coe, Ideal.rsqrt_top, mul_zero]

/-! ## The difference of two softmaxes -/

/-- The data of one softmax: nonnegative real weights `r`, and the plain softmax's weights, `γ` times those. -/
structure Weights {ι : Type} (e e' : ι → EReal) (r : ι → ℝ) (γ : ℝ) : Prop where
  nonneg : ∀ k, 0 ≤ r k
  real : ∀ k, e k = (r k : EReal)
  pos : 0 < γ
  plain : ∀ k, e' k = (γ : EReal) * e k

variable {ι : Type} [Fintype ι]

/-- A probability of the plain softmax is the running weight over the sum of weights, where that sum is not zero. -/
theorem Weights.prob {e e' : ι → EReal} {r : ι → ℝ} {γ : ℝ} (h : Weights e e' r γ) (hL : ∑ k, r k ≠ 0) (k : ι) :
    Ideal.div (e' k) (∑ j, e' j) = ((r k / ∑ j, r j : ℝ) : EReal) := by
  have hs : ∑ j, e' j = ((γ * ∑ j, r j : ℝ) : EReal) := by
    rw [Finset.mul_sum, ← sum_coe]
    exact Finset.sum_congr rfl fun j _ => by rw [h.plain, h.real, EReal.coe_mul]
  rw [hs, h.plain, h.real, ← EReal.coe_mul, div_coe_coe (mul_ne_zero h.pos.ne' hL)]
  congr 1
  exact mul_div_mul_left _ _ h.pos.ne'

/-- Where the sum of weights is zero each weight is, and each probability is minus infinity. -/
theorem Weights.prob_zero {e e' : ι → EReal} {r : ι → ℝ} {γ : ℝ} (h : Weights e e' r γ) (hL : ∑ k, r k = 0) (k : ι) :
    Ideal.div (e' k) (∑ j, e' j) = ⊥ := by
  have h0 : ∀ j, e' j = 0 := fun j => by
    rw [h.plain, h.real, (Finset.sum_eq_zero_iff_of_nonneg fun j _ => h.nonneg j).mp hL j (Finset.mem_univ j)]
    simp
  simp only [h0, Finset.sum_const_zero, div_zero_zero]

/-- The running quotient where the sum of weights is not zero. -/
theorem Weights.quot {e e' : ι → EReal} {r : ι → ℝ} {γ : ℝ} (h : Weights e e' r γ) (hL : ∑ k, r k ≠ 0) (v : ι → ℝ) :
    Ideal.div (∑ k, e k * (v k : EReal)) (∑ k, e k) = (((∑ k, r k * v k) / ∑ k, r k : ℝ) : EReal) := by
  have h1 : ∑ k, e k = ((∑ k, r k : ℝ) : EReal) := by rw [← sum_coe]; exact Finset.sum_congr rfl fun k _ => h.real k
  have h2 : ∑ k, e k * (v k : EReal) = ((∑ k, r k * v k : ℝ) : EReal) := by
    rw [← sum_coe]; exact Finset.sum_congr rfl fun k _ => by rw [h.real, EReal.coe_mul]
  rw [h1, h2, div_coe_coe hL]

/-- The running quotient where the sum of weights is zero. -/
theorem Weights.quot_zero {e e' : ι → EReal} {r : ι → ℝ} {γ : ℝ} (h : Weights e e' r γ) (hL : ∑ k, r k = 0) (v : ι → ℝ) :
    Ideal.div (∑ k, e k * (v k : EReal)) (∑ k, e k) = ⊥ := by
  have h0 : ∀ j, e j = 0 := fun j => by
    rw [h.real, (Finset.sum_eq_zero_iff_of_nonneg fun j _ => h.nonneg j).mp hL j (Finset.mem_univ j)]
    simp
  simp only [h0, zero_mul, Finset.sum_const_zero, div_zero_zero]

/-- THE DIFFERENCE OF TWO SOFTMAXES, NORMALISED: each lane's quotients subtracted, against the probabilities subtracted and then summed against the
    values, both divided by the root of their mean square over the lanes, are equal — the values and the second softmax's factor being finite. -/
theorem difference_rms {κ : Type} [Fintype κ] {e0 e0' e1 e1' : ι → EReal} {r0 r1 : ι → ℝ} {γ0 γ1 : ℝ} (h0 : Weights e0 e0' r0 γ0)
    (h1 : Weights e1 e1' r1 γ1) (lam : ℝ) (v : κ → ι → ℝ) {n ε : ℝ} (hn : 0 < n) (o o' : κ → EReal)
    (ho : ∀ l, o l = Ideal.div (∑ k, e0 k * (v l k : EReal)) (∑ k, e0 k) - (lam : EReal) * Ideal.div (∑ k, e1 k * (v l k : EReal)) (∑ k, e1 k))
    (ho' : ∀ l, o' l = ∑ k, (v l k : EReal) * (Ideal.div (e0' k) (∑ j, e0' j) - (lam : EReal) * Ideal.div (e1' k) (∑ j, e1' j))) (l : κ) :
    o l * Ideal.rsqrt (Ideal.div (∑ j, o j * o j) (n : EReal) + (ε : EReal))
      = o' l * Ideal.rsqrt (Ideal.div (∑ j, o' j * o' j) (n : EReal) + (ε : EReal)) := by
  have key : (∀ l, o l = o' l) ∨ ((∀ l, Degenerate (o l)) ∧ ∀ l, Degenerate (o' l)) := by
    by_cases hL0 : ∑ k, r0 k = 0
    · right
      refine ⟨fun l => ?_, fun l => ?_⟩
      · rw [ho, h0.quot_zero hL0, sub_eq_add_neg, EReal.bot_add]; right; right; rfl
      · rw [ho']
        refine degenerate_sum _ _ fun k _ => degenerate_mul_coe (Or.inr ?_) _
        rw [h0.prob_zero hL0, sub_eq_add_neg, EReal.bot_add]
    · by_cases hL1 : ∑ k, r1 k = 0
      · rcases lt_trichotomy lam 0 with hl | hl | hl
        · right
          refine ⟨fun l => ?_, fun l => ?_⟩
          · rw [ho, h0.quot hL0, h1.quot_zero hL1, EReal.coe_mul_bot_of_neg hl, sub_eq_add_neg, EReal.neg_top, EReal.add_bot]
            right; right; rfl
          · rw [ho']
            refine degenerate_sum _ _ fun k _ => degenerate_mul_coe (Or.inr ?_) _
            rw [h1.prob_zero hL1, EReal.coe_mul_bot_of_neg hl, sub_eq_add_neg, EReal.neg_top, EReal.add_bot]
        · left
          intro l
          rw [ho, ho', h0.quot hL0, h1.quot_zero hL1, hl, EReal.coe_zero, zero_mul, sub_zero, Finset.sum_div, ← sum_coe]
          refine Finset.sum_congr rfl fun k _ => ?_
          rw [h0.prob hL0, zero_mul, sub_zero, ← EReal.coe_mul]
          congr 1
          ring
        · right
          refine ⟨fun l => ?_, fun l => ?_⟩
          · rw [ho, h0.quot hL0, h1.quot_zero hL1, EReal.coe_mul_bot_of_pos hl, sub_eq_add_neg, EReal.neg_bot, EReal.coe_add_top]
            right; left; rfl
          · rw [ho']
            refine degenerate_sum _ _ fun k _ => degenerate_mul_coe (Or.inl ?_) _
            rw [h0.prob hL0, h1.prob_zero hL1, EReal.coe_mul_bot_of_pos hl, sub_eq_add_neg, EReal.neg_bot, EReal.coe_add_top]
      · left
        intro l
        rw [ho, ho', h0.quot hL0, h1.quot hL1, ← EReal.coe_mul, ← EReal.coe_sub, Finset.sum_div, Finset.sum_div, Finset.mul_sum, ← Finset.sum_sub_distrib,
          ← sum_coe]
        refine Finset.sum_congr rfl fun k _ => ?_
        rw [h0.prob hL0, h1.prob hL1, ← EReal.coe_mul, ← EReal.coe_sub, ← EReal.coe_mul]
        congr 1
        ring
  rcases key with h | ⟨h, h'⟩
  · have : o = o' := funext h
    rw [this]
  · rw [rms_degenerate o h hn, rms_degenerate o' h' hn]

end Cert.Softmax

end
-- ==== Proof.Block.lean ====
/- One block of keys, as the kernel's body computes it: from the query rows, a block of keys and values and the planes
   of the running maximum, the running lane sums and the running weighted sums, the planes after the block. The first
   block holds 256 keys and the others 2048; the second map's operations are the first's at other query rows. -/
module

public import proofs.«01_k».proof.Proof.Gen.KernelIdeal.Skeleton
public import proofs.«01_k».proof.Proof.Softmax
public import Idealize.ShloMosaic.Lib.Pipeline.ValueKit
public import Idealize.ShloMosaic.Lib.Pointwise

@[expose] public section

set_option maxRecDepth 16384

noncomputable section

namespace Cert.KernelIdeal.Body

open Cert.KernelIdeal Cert.KernelIdeal.Gen Cert.Softmax Idealize.ShloMosaic Idealize.ShloMosaic.Pointwise

/-- The bits of minus infinity, as an extended real. -/
theorem negInf_eq : Ideal.ofBits FTy.f32 4286578688#32 = ⊥ := by simp [Ideal.ofBits, Ideal.ieee]

/-- A sum over sixteen terms, written out. -/
theorem sum_sixteen (f : Fin 16 → EReal) :
    ∑ b, f b = f 0 + f 1 + f 2 + f 3 + f 4 + f 5 + f 6 + f 7 + f 8 + f 9 + f 10 + f 11 + f 12 + f 13 + f 14 + f 15 := by
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_eight]
  rfl

/-- A block of 128 lanes repeated sixteen times reads at the lane. -/
theorem concat_sixteen (X : FVec Ideal S1024x128 .f32) (i : Fin 1024) (c : Fin 2048)
    (h : Shape.Concatenates [S1024x128, S1024x128, S1024x128, S1024x128, S1024x128, S1024x128, S1024x128, S1024x128, S1024x128, S1024x128, S1024x128, S1024x128, S1024x128, S1024x128, S1024x128, S1024x128] S1024x2048 1) :
    concatenate S1024x2048 1 [⟨S1024x128, X⟩, ⟨S1024x128, X⟩, ⟨S1024x128, X⟩, ⟨S1024x128, X⟩, ⟨S1024x128, X⟩, ⟨S1024x128, X⟩, ⟨S1024x128, X⟩, ⟨S1024x128, X⟩, ⟨S1024x128, X⟩, ⟨S1024x128, X⟩, ⟨S1024x128, X⟩, ⟨S1024x128, X⟩, ⟨S1024x128, X⟩, ⟨S1024x128, X⟩, ⟨S1024x128, X⟩, ⟨S1024x128, X⟩] h (ix2 i c)
      = X (ix2 i ⟨c.val % 128, Nat.mod_lt _ (by decide)⟩) := by
  refine concatenate_replicate_apply (t := S1024x2048) (1 : Fin 2) 16 X h rfl (ix2 i c) (ix2 i ⟨c.val % 128, Nat.mod_lt _ (by decide)⟩) ?_ ?_
  · show c.val % 128 = c.val % 128
    rfl
  · intro b hb
    rcases Fin.exists_fin_two.mp ⟨b, rfl⟩ with h | h
    · subst h; rfl
    · subst h; exact absurd rfl hb

/-- A block of 128 lanes repeated twice reads at the lane. -/
theorem concat_two (X : FVec Ideal S1024x128 .f32) (i : Fin 1024) (c : Fin 256)
    (h : Shape.Concatenates [S1024x128, S1024x128] S1024x256 1) :
    concatenate S1024x256 1 [⟨S1024x128, X⟩, ⟨S1024x128, X⟩] h (ix2 i c) = X (ix2 i ⟨c.val % 128, Nat.mod_lt _ (by decide)⟩) := by
  refine concatenate_replicate_apply (t := S1024x256) (1 : Fin 2) 2 X h rfl (ix2 i c) (ix2 i ⟨c.val % 128, Nat.mod_lt _ (by decide)⟩) ?_ ?_
  · show c.val % 128 = c.val % 128
    rfl
  · intro b hb
    rcases Fin.exists_fin_two.mp ⟨b, rfl⟩ with h | h
    · subst h; rfl
    · subst h; exact absurd rfl hb

/-! ## The loop's block of 2048 keys -/

/-- A score of the block. -/
theorem pay5_apply (q : FVec Ideal S1024x128 .bf16) (K : Vec Ideal S1x2048x128 .bf16) (i : Fin 1024) (c : Fin 2048) :
    k0_pay5 q K (ix2 i c) = ∑ x : Fin 128, q (ix2 i x) * K (ix3 0 c x) := by
  pointwise [k0_pay5, k0_pay3]

/-- A row's maximum as the vector operation computes it. -/
theorem row_max {a b : ℕ} (X : FVec Ideal ⟨2, ![a, b]⟩ .f32) (h : Shape.Reduces (⟨2, ![a, b]⟩ : Shape) [1] ⟨1, ![a]⟩) (w hi hf) (i : Fin a) :
    multiReduction .maximumf [1] (⟨1, ![a]⟩ : Shape) X w h hi hf (ix1 i) = Finset.univ.fold max (Ideal.ofBits .f32 w) fun c : Fin b => X (ix2 i c) := by
  simp only [pointwise]

/-- The new maximum of a row. -/
theorem pay7_apply (q : FVec Ideal S1024x128 .bf16) (K : Vec Ideal S1x2048x128 .bf16) (M : Vec Ideal S1x1024x128 .f32)
    (i : Fin 1024) (j : Fin 128) :
    k0_pay7 q K M (ix2 i j) = max (M (ix3 0 i j)) (Finset.univ.fold max ⊥ fun c : Fin 2048 => k0_pay5 q K (ix2 i c)) := by
  have e := row_max (k0_pay5 q K) reduces_S1024x2048_S1024 0xFF800000#32 (.inl rfl) rfl i
  unfold k0_pay7
  generalize k0_pay5 q K = X at e ⊢
  generalize hY : multiReduction (F := Ideal) .maximumf [1] S1024 X 0xFF800000#32 reduces_S1024x2048_S1024 (.inl rfl) rfl = Y at e ⊢
  clear hY
  rw [← negInf_eq, ← e]
  pointwise [k0_pay6]

/-- The factor by which a row's sums are rescaled. -/
theorem pay8_apply (q : FVec Ideal S1024x128 .bf16) (K : Vec Ideal S1x2048x128 .bf16) (M : Vec Ideal S1x1024x128 .f32)
    (i : Fin 1024) (j : Fin 128) :
    k0_pay8 q K M (ix2 i j) = Ideal.exp2 (M (ix3 0 i j) - k0_pay7 q K M (ix2 i j)) := by
  pointwise [k0_pay8, k0_pay6]
  rfl

/-- A weight of the block: the maximum repeated over the 16 blocks of lanes. -/
theorem pay9_apply (q : FVec Ideal S1024x128 .bf16) (K : Vec Ideal S1x2048x128 .bf16) (M : Vec Ideal S1x1024x128 .f32)
    (i : Fin 1024) (c : Fin 2048) :
    k0_pay9 q K M (ix2 i c)
      = Ideal.exp2 (k0_pay5 q K (ix2 i c) - k0_pay7 q K M (ix2 i ⟨c.val % 128, Nat.mod_lt _ (by decide)⟩)) := by
  unfold k0_pay9
  exact congrArg (fun z => Ideal.exp2 (k0_pay5 q K (ix2 i c) - z)) (concat_sixteen (k0_pay7 q K M) i c
    concatenates_S1024x128_S1024x128_S1024x128_S1024x128_S1024x128_S1024x128_S1024x128_S1024x128_S1024x128_S1024x128_S1024x128_S1024x128_S1024x128_S1024x128_S1024x128_S1024x128_S1024x2048_d1)

/-- The lane sums after the block. -/
theorem pay11_apply (q : FVec Ideal S1024x128 .bf16) (K : Vec Ideal S1x2048x128 .bf16) (M L : Vec Ideal S1x1024x128 .f32)
    (i : Fin 1024) (j : Fin 128) :
    k0_pay11 (k0_pay8 q K M) (k0_pay9 q K M) (k0_pay10 q K M) L (ix3 0 i j)
      = k0_pay8 q K M (ix2 i j) * L (ix3 0 i j) + ∑ b : Fin 16, k0_pay9 q K M (ix2 i ⟨128 * b.val + j.val, by omega⟩) := by
  rw [sum_sixteen]
  pointwise [k0_pay11, k0_pay10]

/-- The weighted sums after the block. -/
theorem pay12_apply (V : FVec Ideal S2048x128 .bf16) (a : FVec Ideal S1024x128 .f32) (p : FVec Ideal S1024x2048 .f32)
    (A : Vec Ideal S1x1024x128 .f32) (i : Fin 1024) (j : Fin 128) :
    k0_pay12 V a p A (ix3 0 i j) = a (ix2 i j) * A (ix3 0 i j) + ∑ c : Fin 2048, p (ix2 i c) * V (ix2 c j) := by
  pointwise [k0_pay12]

/-- The block of values. -/
theorem pay4_apply (V : Vec Ideal S1x2048x128 .bf16) (c : Fin 2048) (j : Fin 128) : k0_pay4 V (ix2 c j) = V (ix3 0 c j) := by
  pointwise [k0_pay4]

/-- The maximum as it is stored. -/
theorem pay13_apply (X : FVec Ideal S1024x128 .f32) (i : Fin 1024) (j : Fin 128) : k0_pay13 X (ix3 0 i j) = X (ix2 i j) := by
  pointwise [k0_pay13]

section Step

variable (q : FVec Ideal S1024x128 .bf16) (K V : Vec Ideal S1x2048x128 .bf16) (M L A : Vec Ideal S1x1024x128 .f32)
  {c : EReal} (hc : c ≠ ⊥) (s : Fin 1024 → ℕ → EReal) (v : Fin 128 → ℕ → EReal) (B : ℕ)
  (hs : ∀ (i : Fin 1024) (k : Fin 2048), ∑ x : Fin 128, q (ix2 i x) * K (ix3 0 k x) = s i (128 * B + k.val))
  (hV : ∀ (k : Fin 2048) (j : Fin 128), V (ix3 0 k j) = v j (128 * B + k.val))
  (hM : ∀ (i : Fin 1024) (j : Fin 128), M (ix3 0 i j) = runMax c (s i) (128 * B))

include hs hM in
/-- The block raises the running maximum. -/
theorem step_max (i : Fin 1024) (j : Fin 128) : k0_pay7 q K M (ix2 i j) = runMax c (s i) (128 * (B + 16)) := by
  rw [pay7_apply, hM, Nat.mul_add, show 128 * 16 = 2048 from rfl, runMax_add,
    fold_max_fin 2048 _ (fun k => s i (128 * B + k)) fun k => by rw [pay5_apply, hs]]

include hs hM in
/-- A weight of the block, under the new maximum. -/
theorem step_weight (i : Fin 1024) (k : Fin 2048) :
    k0_pay9 q K M (ix2 i k) = Ideal.exp2 (s i (128 * B + k.val) - runMax c (s i) (128 * (B + 16))) := by
  rw [pay9_apply, pay5_apply, hs, step_max q K M s B hs hM]

include hs hM in
/-- The factor of the block. -/
theorem step_factor (i : Fin 1024) (j : Fin 128) :
    k0_pay8 q K M (ix2 i j) = Ideal.exp2 (runMax c (s i) (128 * B) - runMax c (s i) (128 * (B + 16))) := by
  rw [pay8_apply, hM, step_max q K M s B hs hM]

include hc hs hM in
/-- The lane sums after the block are the running ones. -/
theorem step_lane (hL : ∀ (i : Fin 1024) (j : Fin 128), L (ix3 0 i j) = runLane c (s i) B j.val) (i : Fin 1024) (j : Fin 128) :
    k0_pay11 (k0_pay8 q K M) (k0_pay9 q K M) (k0_pay10 q K M) L (ix3 0 i j) = runLane c (s i) (B + 16) j.val := by
  rw [pay11_apply, step_factor q K M s B hs hM, hL, ← runLane_add hc (s i) B 16 j.val j.isLt, Finset.sum_range]
  exact congrArg _ (Finset.sum_congr rfl fun b _ => step_weight q K M s B hs hM i _)

include hc hs hV hM in
/-- The weighted sums after the block are the running ones. -/
theorem step_acc (hA : ∀ (i : Fin 1024) (j : Fin 128), A (ix3 0 i j) = runAcc c (s i) (v j) (128 * B)) (i : Fin 1024) (j : Fin 128) :
    k0_pay12 (k0_pay4 V) (k0_pay8 q K M) (k0_pay9 q K M) A (ix3 0 i j) = runAcc c (s i) (v j) (128 * (B + 16)) := by
  rw [pay12_apply, step_factor q K M s B hs hM, hA, show 128 * (B + 16) = 128 * B + 2048 from by omega,
    ← runAcc_add hc (s i) (v j) (128 * B) 2048, Finset.sum_range]
  refine congrArg _ (Finset.sum_congr rfl fun k _ => ?_)
  rw [step_weight q K M s B hs hM, pay4_apply, hV, show 128 * (B + 16) = 128 * B + 2048 from by omega]

end Step

/-! ## The second map: the same operations -/

/-- The second map's new maximum. -/
theorem pay16_eq (q : FVec Ideal S1024x128 .bf16) (K : Vec Ideal S1x2048x128 .bf16) (M : Vec Ideal S1x1024x128 .f32) :
    k0_pay16 q (k0_pay3 K) M = k0_pay7 q K M := rfl

/-- The second map's maximum as it is stored. -/
theorem pay47_eq (X : FVec Ideal S1024x128 .f32) : k0_pay47 X = k0_pay13 X := rfl

/-- The second map's rescaling factor. -/
theorem pay17_eq (q : FVec Ideal S1024x128 .bf16) (K : Vec Ideal S1x2048x128 .bf16) (M : Vec Ideal S1x1024x128 .f32) :
    k0_pay17 q (k0_pay3 K) M = k0_pay8 q K M := by
  unfold k0_pay17 k0_pay8
  rw [pay16_eq]
  generalize k0_pay7 q K M = X
  rfl

/-- The second map's weights. -/
theorem pay18_eq (q : FVec Ideal S1024x128 .bf16) (K : Vec Ideal S1x2048x128 .bf16) (M : Vec Ideal S1x1024x128 .f32) :
    k0_pay18 q (k0_pay3 K) M = k0_pay9 q K M := by
  unfold k0_pay18 k0_pay9
  simp only [pay16_eq]
  generalize k0_pay7 q K M = X
  rfl

/-- The second map's lane sums. -/
theorem pay20_eq (q : FVec Ideal S1024x128 .bf16) (K : Vec Ideal S1x2048x128 .bf16) (M L : Vec Ideal S1x1024x128 .f32) :
    k0_pay20 (k0_pay17 q (k0_pay3 K) M) (k0_pay18 q (k0_pay3 K) M) (k0_pay19 q (k0_pay3 K) M) L
      = k0_pay11 (k0_pay8 q K M) (k0_pay9 q K M) (k0_pay10 q K M) L := by
  unfold k0_pay19 k0_pay10
  rw [pay17_eq, pay18_eq]
  generalize k0_pay9 q K M = Y
  generalize k0_pay8 q K M = X
  unfold k0_pay20 k0_pay11
  rfl

/-- The second map's weighted sums. -/
theorem pay21_eq (V : FVec Ideal S2048x128 .bf16) (q : FVec Ideal S1024x128 .bf16) (K : Vec Ideal S1x2048x128 .bf16)
    (M A : Vec Ideal S1x1024x128 .f32) :
    k0_pay21 V (k0_pay17 q (k0_pay3 K) M) (k0_pay18 q (k0_pay3 K) M) A = k0_pay12 V (k0_pay8 q K M) (k0_pay9 q K M) A := by
  rw [pay17_eq, pay18_eq]
  generalize k0_pay9 q K M = Y
  generalize k0_pay8 q K M = X
  rfl

/-! ## The first block, of 256 keys -/

/-- A score of the first block. -/
theorem pay39_apply (q : FVec Ideal S1024x128 .bf16) (K : Vec Ideal S1x256x128 .bf16) (i : Fin 1024) (c : Fin 256) :
    k0_pay39 q (k0_pay29 K) (ix2 i c) = ∑ x : Fin 128, q (ix2 i x) * K (ix3 0 c x) := by
  pointwise [k0_pay39, k0_pay29]

/-- The first map's scores are the same product at its own query rows. -/
theorem pay31_eq (x0 : Vec Ideal S1x1024x128 .bf16) (K : Vec Ideal S1x256x128 .bf16) :
    k0_pay31 x0 K = k0_pay39 (k0_pay24 x0) (k0_pay29 K) := rfl

/-- The first block of values. -/
theorem pay30_apply (V : Vec Ideal S1x256x128 .bf16) (c : Fin 256) (j : Fin 128) : k0_pay30 V (ix2 c j) = V (ix3 0 c j) := by
  pointwise [k0_pay30]

/-- The maximum of a row after the first block. -/
theorem pay33_apply (S : FVec Ideal S1024x256 .f32) (M : Vec Ideal S1x1024x128 .f32) (i : Fin 1024) (j : Fin 128) :
    k0_pay33 S M (ix2 i j) = max (M (ix3 0 i j)) (Finset.univ.fold max ⊥ fun c : Fin 256 => S (ix2 i c)) := by
  have e := row_max S reduces_S1024x256_S1024 0xFF800000#32 (.inl rfl) rfl i
  unfold k0_pay33
  generalize hY : multiReduction (F := Ideal) .maximumf [1] S1024 S 0xFF800000#32 reduces_S1024x256_S1024 (.inl rfl) rfl = Y at e ⊢
  clear hY
  rw [← negInf_eq, ← e]
  pointwise [k0_pay32]

/-- The factor of the first block. -/
theorem pay34_apply (S : FVec Ideal S1024x256 .f32) (M : Vec Ideal S1x1024x128 .f32) (i : Fin 1024) (j : Fin 128) :
    k0_pay34 S M (ix2 i j) = Ideal.exp2 (M (ix3 0 i j) - k0_pay33 S M (ix2 i j)) := by
  pointwise [k0_pay34, k0_pay32]
  rfl

/-- A weight of the first block. -/
theorem pay35_apply (S : FVec Ideal S1024x256 .f32) (M : Vec Ideal S1x1024x128 .f32) (i : Fin 1024) (c : Fin 256) :
    k0_pay35 S M (ix2 i c) = Ideal.exp2 (S (ix2 i c) - k0_pay33 S M (ix2 i ⟨c.val % 128, Nat.mod_lt _ (by decide)⟩)) := by
  unfold k0_pay35
  exact congrArg (fun z => Ideal.exp2 (S (ix2 i c) - z)) (concat_two (k0_pay33 S M) i c concatenates_S1024x128_S1024x128_S1024x256_d1)

/-- The lane sums after the first block. -/
theorem pay36_apply (S : FVec Ideal S1024x256 .f32) (M L : Vec Ideal S1x1024x128 .f32) (i : Fin 1024) (j : Fin 128) :
    k0_pay36 S M L (ix3 0 i j)
      = k0_pay34 S M (ix2 i j) * L (ix3 0 i j) + ∑ b : Fin 2, k0_pay35 S M (ix2 i ⟨128 * b.val + j.val, by omega⟩) := by
  rw [Fin.sum_univ_two]
  pointwise [k0_pay36]

/-- The weighted sums after the first block. -/
theorem pay37_apply (V : FVec Ideal S256x128 .bf16) (S : FVec Ideal S1024x256 .f32) (M A : Vec Ideal S1x1024x128 .f32) (i : Fin 1024) (j : Fin 128) :
    k0_pay37 V S M A (ix3 0 i j)
      = k0_pay34 S M (ix2 i j) * A (ix3 0 i j) + ∑ c : Fin 256, k0_pay35 S M (ix2 i c) * V (ix2 c j) := by
  pointwise [k0_pay37]

/-- The maximum of the first block as it is stored. -/
theorem pay38_apply (S : FVec Ideal S1024x256 .f32) (M : Vec Ideal S1x1024x128 .f32) (i : Fin 1024) (j : Fin 128) :
    k0_pay38 S M (ix3 0 i j) = k0_pay33 S M (ix2 i j) := by
  pointwise [k0_pay38]

section First

variable (S : FVec Ideal S1024x256 .f32) (V : Vec Ideal S1x256x128 .bf16) (M L A : Vec Ideal S1x1024x128 .f32)
  {c : EReal} (s : Fin 1024 → ℕ → EReal) (v : Fin 128 → ℕ → EReal)
  (hs : ∀ (i : Fin 1024) (k : Fin 256), S (ix2 i k) = s i k.val)
  (hV : ∀ (k : Fin 256) (j : Fin 128), V (ix3 0 k j) = v j k.val)
  (hM : ∀ (i : Fin 1024) (j : Fin 128), M (ix3 0 i j) = c)

include hs hM in
/-- The maximum after the first block. -/
theorem first_max (i : Fin 1024) (j : Fin 128) : k0_pay33 S M (ix2 i j) = runMax c (s i) (128 * 2) := by
  rw [pay33_apply, hM, fold_max_fin 256 _ (fun k => s i k) fun k => hs i k]
  rfl

include hs hM in
/-- A weight of the first block, under its maximum. -/
theorem first_weight (i : Fin 1024) (k : Fin 256) : k0_pay35 S M (ix2 i k) = Ideal.exp2 (s i k.val - runMax c (s i) (128 * 2)) := by
  rw [pay35_apply, hs, first_max S M s hs hM]

include hs hM in
/-- The lane sums after the first block, over a plane of zeros. -/
theorem first_lane (hL : ∀ (i : Fin 1024) (j : Fin 128), L (ix3 0 i j) = 0) (i : Fin 1024) (j : Fin 128) :
    k0_pay36 S M L (ix3 0 i j) = runLane c (s i) 2 j.val := by
  rw [pay36_apply, hL, mul_zero, zero_add]
  unfold runLane
  rw [Finset.sum_range]
  exact Finset.sum_congr rfl fun b _ => first_weight S M s hs hM i _

include hs hV hM in
/-- The weighted sums after the first block, over a plane of zeros. -/
theorem first_acc (hA : ∀ (i : Fin 1024) (j : Fin 128), A (ix3 0 i j) = 0) (i : Fin 1024) (j : Fin 128) :
    k0_pay37 (k0_pay30 V) S M A (ix3 0 i j) = runAcc c (s i) (v j) (128 * 2) := by
  rw [pay37_apply, hA, mul_zero, zero_add]
  unfold runAcc
  rw [Finset.sum_range]
  exact Finset.sum_congr rfl fun k _ => by rw [first_weight S M s hs hM, pay30_apply, hV]

end First

/-- The second map's maximum after the first block, as it is stored. -/
theorem pay46_eq (S : FVec Ideal S1024x256 .f32) (M : Vec Ideal S1x1024x128 .f32) : k0_pay46 S M = k0_pay38 S M := rfl

/-- The second map's lane sums after the first block. -/
theorem pay44_eq (S : FVec Ideal S1024x256 .f32) (M L : Vec Ideal S1x1024x128 .f32) : k0_pay44 S M L = k0_pay36 S M L := rfl

/-- The second map's weighted sums after the first block. -/
theorem pay45_eq (V : FVec Ideal S256x128 .bf16) (S : FVec Ideal S1024x256 .f32) (M A : Vec Ideal S1x1024x128 .f32) :
    k0_pay45 V S M A = k0_pay37 V S M A := rfl

end Cert.KernelIdeal.Body

end
-- ==== Proof.Trips.lean ====
/- The planes through the loop: what one trip's stores leave of the running maximum, the lane sums and the weighted
   sums of the two maps, and by induction what the four trips leave. -/
module

public import proofs.«01_k».proof.Proof.Gen.KernelIdeal.Loops
public import proofs.«01_k».proof.Proof.Block
public import Idealize.ShloMosaic.Lib.WritesUnit
public import Idealize.ShloMosaic.Lib.Pointwise

@[expose] public section

set_option maxRecDepth 16384

noncomputable section

namespace Cert.KernelIdeal.Body

open Cert.KernelIdeal Cert.KernelIdeal.Gen Cert.Softmax Idealize.ShloMosaic Idealize.ShloMosaic.TcCoe Idealize.SL.Sem Idealize.ShloMosaic.Pointwise

/-- What plane `p` of the three scratch arrays holds after the first `B` blocks of 128 keys: every row's running maximum over the
    scores `s` in all lanes, its lane sums of weights, its weighted sums of the values `v`. -/
structure Plane (fl : EReal) (s : Fin 1024 → ℕ → EReal) (v : Fin 128 → ℕ → EReal) (B : ℕ) (p : Fin 2)
    (XM XL XA : Vec Ideal S2x1024x128 .f32) : Prop where
  max : ∀ (i : Fin 1024) (j : Fin 128), XM (ix3 p i j) = runMax fl (s i) (128 * B)
  lane : ∀ (i : Fin 1024) (j : Fin 128), XL (ix3 p i j) = runLane fl (s i) B j.val
  acc : ∀ (i : Fin 1024) (j : Fin 128), XA (ix3 p i j) = runAcc fl (s i) (v j) (128 * B)

section Planes

variable (m : Memref sig .tc .vmem S2x1024x128 .f32) (f : BufTy.Contents (Elt Ideal) m.view.ty) (w0 w1 : Vec Ideal S1x1024x128 .f32)
  (L : List (View.Piece (Elt Ideal) S2x1024x128 .f32)) (i : Fin 1024) (j : Fin 128)

/-- A load of plane 0 reads it. -/
theorem load_plane0 :
    (m.view.readAt (Elt Ideal) (Rect.unit (s := S2x1024x128) ![0, 0, 0] ![1, 1024, 128] inb_S2x1024x128_S1x1024x128_0_0_0).toLoadRect f : Vec Ideal S1x1024x128 .f32) (ix3 0 i j)
      = m.view.read (Elt Ideal) f (ix3 0 i j) := by
  rw [View.readAt_eq_ld]
  refine View.ld_unit_apply_of _ _ _ _ _ (ix3 0 i j) fun a => ?_
  rcases Fin.exists_fin_succ.mp ⟨a, rfl⟩ with h | ⟨b, h⟩
  · subst h; rfl
  · rcases Fin.exists_fin_two.mp ⟨b, rfl⟩ with h' | h' <;> subst h' <;> subst h <;> exact (Nat.zero_add _).symm

/-- A load of plane 1 reads it. -/
theorem load_plane1 :
    (m.view.readAt (Elt Ideal) (Rect.unit (s := S2x1024x128) ![1, 0, 0] ![1, 1024, 128] inb_S2x1024x128_S1x1024x128_1_0_0).toLoadRect f : Vec Ideal S1x1024x128 .f32) (ix3 0 i j)
      = m.view.read (Elt Ideal) f (ix3 1 i j) := by
  rw [View.readAt_eq_ld]
  refine View.ld_unit_apply_of _ _ _ _ _ (ix3 1 i j) fun a => ?_
  rcases Fin.exists_fin_succ.mp ⟨a, rfl⟩ with h | ⟨b, h⟩
  · subst h; rfl
  · rcases Fin.exists_fin_two.mp ⟨b, rfl⟩ with h' | h' <;> subst h' <;> subst h <;> exact (Nat.zero_add _).symm

/-- After a store of plane 1 that plane reads the store. -/
theorem store_plane1 :
    m.view.read (Elt Ideal) (m.view.writes (Elt Ideal) f
        (⟨Rect.unit (s := S2x1024x128) ![1, 0, 0] ![1, 1024, 128] inb_S2x1024x128_S1x1024x128_1_0_0, w1⟩ :: L)) (ix3 1 i j) = w1 (ix3 0 i j) := by
  refine View.read_writes_cons_unit_of_mem m.view f inb_S2x1024x128_S1x1024x128_1_0_0 w1 L (ix3 1 i j) (ix3 0 i j) rfl fun a => ?_
  rcases Fin.exists_fin_succ.mp ⟨a, rfl⟩ with h | ⟨b, h⟩
  · subst h; rfl
  · rcases Fin.exists_fin_two.mp ⟨b, rfl⟩ with h' | h' <;> subst h' <;> subst h <;> exact (Nat.zero_add _).symm

/-- After a store of plane 0 and one of plane 1, plane 0 reads its store. -/
theorem store_plane0 :
    m.view.read (Elt Ideal) (m.view.writes (Elt Ideal) f
        (⟨Rect.unit (s := S2x1024x128) ![1, 0, 0] ![1, 1024, 128] inb_S2x1024x128_S1x1024x128_1_0_0, w1⟩
          :: ⟨Rect.unit (s := S2x1024x128) ![0, 0, 0] ![1, 1024, 128] inb_S2x1024x128_S1x1024x128_0_0_0, w0⟩ :: L)) (ix3 0 i j) = w0 (ix3 0 i j) := by
  refine (View.read_writes_cons_unit_of_not_mem m.view f inb_S2x1024x128_S1x1024x128_1_0_0 w1 _ (ix3 0 i j) rfl 0 (Or.inl Nat.zero_lt_one)).trans ?_
  refine View.read_writes_cons_unit_of_mem m.view f inb_S2x1024x128_S1x1024x128_0_0_0 w0 L (ix3 0 i j) (ix3 0 i j) rfl fun a => ?_
  rcases Fin.exists_fin_succ.mp ⟨a, rfl⟩ with h | ⟨b, h⟩
  · subst h; rfl
  · rcases Fin.exists_fin_two.mp ⟨b, rfl⟩ with h' | h' <;> subst h' <;> subst h <;> exact (Nat.zero_add _).symm

/-- After a store of plane 0 that plane reads the store. -/
theorem store_plane0_last :
    m.view.read (Elt Ideal) (m.view.writes (Elt Ideal) f
        (⟨Rect.unit (s := S2x1024x128) ![0, 0, 0] ![1, 1024, 128] inb_S2x1024x128_S1x1024x128_0_0_0, w0⟩ :: L)) (ix3 0 i j) = w0 (ix3 0 i j) := by
  refine View.read_writes_cons_unit_of_mem m.view f inb_S2x1024x128_S1x1024x128_0_0_0 w0 L (ix3 0 i j) (ix3 0 i j) rfl fun a => ?_
  rcases Fin.exists_fin_succ.mp ⟨a, rfl⟩ with h | ⟨b, h⟩
  · subst h; rfl
  · rcases Fin.exists_fin_two.mp ⟨b, rfl⟩ with h' | h' <;> subst h' <;> subst h <;> exact (Nat.zero_add _).symm

/-- A store of plane 0 leaves plane 1. -/
theorem store_plane0_other :
    m.view.read (Elt Ideal) (m.view.writes (Elt Ideal) f
        (⟨Rect.unit (s := S2x1024x128) ![0, 0, 0] ![1, 1024, 128] inb_S2x1024x128_S1x1024x128_0_0_0, w0⟩ :: L)) (ix3 1 i j)
      = m.view.read (Elt Ideal) (m.view.writes (Elt Ideal) f L) (ix3 1 i j) :=
  View.read_writes_cons_unit_of_not_mem m.view f inb_S2x1024x128_S1x1024x128_0_0_0 w0 _ (ix3 1 i j) rfl 0 (Or.inr (le_refl 1))

/-- After a fill of both planes an index reads the fill. -/
theorem store_fill (W : Vec Ideal S2x1024x128 .f32) (p : Fin 2) :
    m.view.read (Elt Ideal) (m.view.writes (Elt Ideal) f
        (⟨Rect.unit (s := S2x1024x128) ![0, 0, 0] ![2, 1024, 128] inb_S2x1024x128_S2x1024x128_0_0_0, W⟩ :: L)) (ix3 p i j) = W (ix3 p i j) := by
  refine View.read_writes_cons_unit_of_mem m.view f inb_S2x1024x128_S2x1024x128_0_0_0 W L (ix3 p i j) (ix3 p i j) rfl fun a => ?_
  rcases Fin.exists_fin_succ.mp ⟨a, rfl⟩ with h | ⟨b, h⟩
  · subst h; exact (Nat.zero_add _).symm
  · rcases Fin.exists_fin_two.mp ⟨b, rfl⟩ with h' | h' <;> subst h' <;> subst h <;> exact (Nat.zero_add _).symm

end Planes

/-- The trip's block of keys begins at row `2048 k`. -/
theorem off1_eq : ∀ (k : Fin k0_t1_loop.trips) (a : Fin 3), k0_off1 k a = (![0, 2048 * k.val, 0] : Fin 3 → ℕ) a := by decide +kernel

/-- A load of the trip's block of keys or values. -/
theorem load_block (m : Memref sig .tc .vmem S1x8192x128 .bf16) (X : BufTy.Contents (Elt Ideal) m.view.ty) (k : Fin k0_t1_loop.trips)
    (r : Fin 2048) (x : Fin 128) (h : 2048 * k.val + r.val < 8192) :
    (m.view.readAt (Elt Ideal) (Rect.unit (s := S1x8192x128) (k0_off1 k) S1x2048x128.size (k0_off1_inb k)).toLoadRect X : Vec Ideal S1x2048x128 .bf16) (ix3 0 r x)
      = m.view.read (Elt Ideal) X (ix3 0 ⟨2048 * k.val + r.val, h⟩ x) := by
  rw [View.readAt_eq_ld]
  refine View.ld_unit_apply_of _ _ _ _ _ (ix3 0 ⟨2048 * k.val + r.val, h⟩ x) fun a => ?_
  rw [off1_eq]
  rcases Fin.exists_fin_succ.mp ⟨a, rfl⟩ with h | ⟨b, h⟩
  · subst h; rfl
  · rcases Fin.exists_fin_two.mp ⟨b, rfl⟩ with h' | h' <;> subst h' <;> subst h
    · rfl
    · exact (Nat.zero_add _).symm

/-- The loop runs four trips. -/
theorem trips_eq : k0_t1_loop.trips = 4 := by decide +kernel

section Loop

variable (𝒱 : Variants) (c : Dev nD) (bd : Option 𝒱.V) (i : grid0.Coords) (arg3 : Memref sig .tc .vmem S1x1024x128 .bf16) (harg3 : arg3.IsWhole) (arg4 : Memref sig .tc .vmem S1x256x128 .bf16) (harg4 : arg4.IsWhole) (arg5 : Memref sig .tc .vmem S1x256x128 .bf16) (harg5 : arg5.IsWhole) (arg6 : Memref sig .tc .vmem S1x8192x128 .bf16) (harg6 : arg6.IsWhole) (arg7 : Memref sig .tc .vmem S1x8192x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S3072x128 .i32) (harg11 : arg11.IsWhole) (arg12 : Memref sig .tc .vmem S2x1024x128 .f32) (harg12 : arg12.IsWhole) (arg13 : Memref sig .tc .vmem S2x1024x128 .f32) (harg13 : arg13.IsWhole) (arg14 : Memref sig .tc .vmem S2x1024x128 .f32) (harg14 : arg14.IsWhole)
  (v6 v9 : FVec Ideal S1024x128 .bf16) (v25 : FVec Ideal S256x128 .bf16) (v60 : FVec Ideal S1024x256 .f32) (v61 : Vec Ideal S1x1024x128 .f32)
  (X_arg6 : BufTy.Contents (Elt Ideal) arg6.view.ty) (X_arg7 : BufTy.Contents (Elt Ideal) arg7.view.ty)
  {fl : EReal} (hfl : fl ≠ ⊥) (s0 s1 : Fin 1024 → ℕ → EReal) (v : Fin 128 → ℕ → EReal)
  (hs0 : ∀ (r : Fin 1024) (n : Fin 8192), ∑ x : Fin 128, v6 (ix2 r x) * arg6.view.read (Elt Ideal) X_arg6 (ix3 0 n x) = s0 r (256 + n.val))
  (hs1 : ∀ (r : Fin 1024) (n : Fin 8192), ∑ x : Fin 128, v9 (ix2 r x) * arg6.view.read (Elt Ideal) X_arg6 (ix3 0 n x) = s1 r (256 + n.val))
  (hv : ∀ (n : Fin 8192) (j : Fin 128), arg7.view.read (Elt Ideal) X_arg7 (ix3 0 n j) = v j (256 + n.val))

include hfl hs0 hs1 hv

/-- ONE TRIP takes the planes 16 blocks of keys further. -/
theorem trip_planes (k : Fin k0_t1_loop.trips) (f12 : BufTy.Contents (Elt Ideal) arg12.view.ty) (f13 : BufTy.Contents (Elt Ideal) arg13.view.ty)
    (f14 : BufTy.Contents (Elt Ideal) arg14.view.ty) (B : ℕ) (hB : B = 2 + 16 * k.val)
    (h0 : Plane fl s0 v B 0 (arg12.view.read (Elt Ideal) f12) (arg13.view.read (Elt Ideal) f13) (arg14.view.read (Elt Ideal) f14))
    (h1 : Plane fl s1 v B 1 (arg12.view.read (Elt Ideal) f12) (arg13.view.read (Elt Ideal) f13) (arg14.view.read (Elt Ideal) f14))
    (T : List (View.Piece (Elt Ideal) S2x1024x128 .f32) × List (View.Piece (Elt Ideal) S2x1024x128 .f32) × List (View.Piece (Elt Ideal) S2x1024x128 .f32))
    (hT : T = tripL_k0_t1 (F := Ideal) 𝒱 c bd i arg3 harg3 arg4 harg4 arg5 harg5 arg6 harg6 arg7 harg7 arg8 harg8 arg9 harg9 arg10 harg10 arg11 harg11 arg12 harg12 arg13 harg13 arg14 harg14 v6 v9 v25 v60 v61 X_arg6 X_arg7 k f12 f13 f14) :
    Plane fl s0 v (B + 16) 0 (arg12.view.read (Elt Ideal) (arg12.view.writes (Elt Ideal) f12 T.1))
        (arg13.view.read (Elt Ideal) (arg13.view.writes (Elt Ideal) f13 T.2.1)) (arg14.view.read (Elt Ideal) (arg14.view.writes (Elt Ideal) f14 T.2.2))
      ∧ Plane fl s1 v (B + 16) 1 (arg12.view.read (Elt Ideal) (arg12.view.writes (Elt Ideal) f12 T.1))
        (arg13.view.read (Elt Ideal) (arg13.view.writes (Elt Ideal) f13 T.2.1)) (arg14.view.read (Elt Ideal) (arg14.view.writes (Elt Ideal) f14 T.2.2)) := by
  have hk : k.val < 4 := lt_of_lt_of_eq k.isLt trips_eq
  have hlt : ∀ r : Fin 2048, 2048 * k.val + r.val < 8192 := fun r => by have := r.isLt; omega
  have hkey : ∀ r : Fin 2048, 256 + (2048 * k.val + r.val) = 128 * B + r.val := fun r => by omega
  have es0 : ∀ (r : Fin 1024) (n : Fin 2048), ∑ x : Fin 128, v6 (ix2 r x) * (arg6.view.readAt (Elt Ideal)
      (Rect.unit (s := S1x8192x128) (k0_off1 k) S1x2048x128.size (k0_off1_inb k)).toLoadRect X_arg6 : Vec Ideal S1x2048x128 .bf16) (ix3 0 n x) = s0 r (128 * B + n.val) := fun r n => by
    rw [← hkey, ← hs0 r ⟨2048 * k.val + n.val, hlt n⟩]
    exact Finset.sum_congr rfl fun x _ => congrArg _ (load_block arg6 X_arg6 k n x (hlt n))
  have es1 : ∀ (r : Fin 1024) (n : Fin 2048), ∑ x : Fin 128, v9 (ix2 r x) * (arg6.view.readAt (Elt Ideal)
      (Rect.unit (s := S1x8192x128) (k0_off1 k) S1x2048x128.size (k0_off1_inb k)).toLoadRect X_arg6 : Vec Ideal S1x2048x128 .bf16) (ix3 0 n x) = s1 r (128 * B + n.val) := fun r n => by
    rw [← hkey, ← hs1 r ⟨2048 * k.val + n.val, hlt n⟩]
    exact Finset.sum_congr rfl fun x _ => congrArg _ (load_block arg6 X_arg6 k n x (hlt n))
  have ev : ∀ (n : Fin 2048) (j : Fin 128), (arg7.view.readAt (Elt Ideal) (Rect.unit (s := S1x8192x128) (k0_off1 k) S1x2048x128.size (k0_off1_inb k)).toLoadRect X_arg7 : Vec Ideal S1x2048x128 .bf16) (ix3 0 n j)
      = v j (128 * B + n.val) := fun n j => by
    rw [← hkey]
    exact (load_block arg7 X_arg7 k n j (hlt n)).trans (hv ⟨2048 * k.val + n.val, hlt n⟩ j)
  subst hT
  unfold tripL_k0_t1 trip_k0_t1
  dsimp only
  unfold trip_k0_t1.sl.r_2 trip_k0_t1.sl.r_3 trip_k0_t1.sl.r_4 trip_k0_t1.sl.r_5 trip_k0_t1.sl.r_6 trip_k0_t1.sl.r_7 trip_k0_t1.sl.r_8 trip_k0_t1.sl.r_9
    trip_k0_t1.sl.v266 trip_k0_t1.sl.v273
  unfold trip_k0_t1.sl.r_1 trip_k0_t1.sl.r trip_k0_t1.sl.v224
  refine ⟨⟨fun r j => ?_, fun r j => ?_, fun r j => ?_⟩, ⟨fun r j => ?_, fun r j => ?_, fun r j => ?_⟩⟩
  · rw [store_plane0, pay13_apply]
    exact step_max _ _ _ s0 B es0 (fun r j => (load_plane0 arg12 f12 r j).trans (h0.max r j)) r j
  · rw [store_plane0]
    exact step_lane _ _ _ _ hfl s0 B es0 (fun r j => (load_plane0 arg12 f12 r j).trans (h0.max r j))
      (fun r j => (load_plane0 arg13 f13 r j).trans (h0.lane r j)) r j
  · rw [store_plane0]
    exact step_acc _ _ _ _ _ hfl s0 v B es0 ev (fun r j => (load_plane0 arg12 f12 r j).trans (h0.max r j))
      (fun r j => (load_plane0 arg14 f14 r j).trans (h0.acc r j)) r j
  · rw [store_plane1, pay47_eq, pay13_apply, pay16_eq]
    exact step_max _ _ _ s1 B es1 (fun r j => (load_plane1 arg12 f12 r j).trans (h1.max r j)) r j
  · rw [store_plane1, pay20_eq]
    exact step_lane _ _ _ _ hfl s1 B es1 (fun r j => (load_plane1 arg12 f12 r j).trans (h1.max r j))
      (fun r j => (load_plane1 arg13 f13 r j).trans (h1.lane r j)) r j
  · rw [store_plane1, pay21_eq]
    exact step_acc _ _ _ _ _ hfl s1 v B es1 ev (fun r j => (load_plane1 arg12 f12 r j).trans (h1.max r j))
      (fun r j => (load_plane1 arg14 f14 r j).trans (h1.acc r j)) r j

/-- THE LOOP takes the planes from the first 2 blocks of keys to `2 + 16 n` after `n` trips. -/
theorem loop_planes (G12 : BufTy.Contents (Elt Ideal) arg12.view.ty) (G13 : BufTy.Contents (Elt Ideal) arg13.view.ty) (G14 : BufTy.Contents (Elt Ideal) arg14.view.ty)
    (h0 : Plane fl s0 v 2 0 (arg12.view.read (Elt Ideal) G12) (arg13.view.read (Elt Ideal) G13) (arg14.view.read (Elt Ideal) G14))
    (h1 : Plane fl s1 v 2 1 (arg12.view.read (Elt Ideal) G12) (arg13.view.read (Elt Ideal) G13) (arg14.view.read (Elt Ideal) G14))
    (n : ℕ) (hn : n ≤ 4)
    (T : List (View.Piece (Elt Ideal) S2x1024x128 .f32) × List (View.Piece (Elt Ideal) S2x1024x128 .f32) × List (View.Piece (Elt Ideal) S2x1024x128 .f32))
    (hT : T = pb_k0_t1 (F := Ideal) 𝒱 c bd i arg3 harg3 arg4 harg4 arg5 harg5 arg6 harg6 arg7 harg7 arg8 harg8 arg9 harg9 arg10 harg10 arg11 harg11 arg12 harg12 arg13 harg13 arg14 harg14 v6 v9 v25 v60 v61 X_arg6 X_arg7 G12 G13 G14 n) :
    Plane fl s0 v (2 + 16 * n) 0 (arg12.view.read (Elt Ideal) (arg12.view.writes (Elt Ideal) G12 T.1))
        (arg13.view.read (Elt Ideal) (arg13.view.writes (Elt Ideal) G13 T.2.1)) (arg14.view.read (Elt Ideal) (arg14.view.writes (Elt Ideal) G14 T.2.2))
      ∧ Plane fl s1 v (2 + 16 * n) 1 (arg12.view.read (Elt Ideal) (arg12.view.writes (Elt Ideal) G12 T.1))
        (arg13.view.read (Elt Ideal) (arg13.view.writes (Elt Ideal) G13 T.2.1)) (arg14.view.read (Elt Ideal) (arg14.view.writes (Elt Ideal) G14 T.2.2)) := by
  induction n generalizing T with
  | zero =>
    subst hT
    exact ⟨h0, h1⟩
  | succ n ih =>
    have ht : n < k0_t1_loop.trips := by rw [trips_eq]; omega
    have e := pb_k0_t1_succ (F := Ideal) 𝒱 c bd i arg3 harg3 arg4 harg4 arg5 harg5 arg6 harg6 arg7 harg7 arg8 harg8 arg9 harg9 arg10 harg10 arg11 harg11 arg12 harg12 arg13 harg13 arg14 harg14 v6 v9 v25 v60 v61 X_arg6 X_arg7 G12 G13 G14 ⟨n, ht⟩
    obtain ⟨i0, i1⟩ := ih (by omega) _ rfl
    have st := trip_planes 𝒱 c bd i arg3 harg3 arg4 harg4 arg5 harg5 arg6 harg6 arg7 harg7 arg8 harg8 arg9 harg9 arg10 harg10 arg11 harg11 arg12 harg12 arg13 harg13 arg14 harg14 v6 v9 v25 v60 v61 X_arg6 X_arg7 hfl s0 s1 v hs0 hs1 hv ⟨n, ht⟩ _ _ _ (2 + 16 * n) rfl i0 i1 _ rfl
    have hT' := hT.trans e
    subst hT'
    rw [View.writes_append, View.writes_append, View.writes_append]
    exact st

end Loop

end Cert.KernelIdeal.Body

end
-- ==== Proof.Body.lean ====
/- The body's two outputs at an index, from its input blocks: the attention block from the running sums over all 66
   blocks of keys, and the zeros. -/
module

public import proofs.«01_k».proof.Proof.Gen.KernelIdeal.Value
public import proofs.«01_k».proof.Proof.Trips

@[expose] public section

set_option maxRecDepth 16384

noncomputable section

namespace Cert.KernelIdeal.Body

open Cert.KernelIdeal Cert.KernelIdeal.Gen Cert.Softmax Idealize.ShloMosaic Idealize.ShloMosaic.TcCoe Idealize.SL.Sem Idealize.ShloMosaic.Pointwise

/-- The kernel's floor under every running maximum. -/
def floorWord : EReal := Ideal.ofBits .f32 0xF149F2CA#32

/-- The score of key `k` for row `r` of the query rows `q`: the context's 256 keys `kc`, then the 8192 keys `kl`. -/
def scoreOf (q : FVec Ideal S1024x128 .bf16) (kc : Vec Ideal S1x256x128 .bf16) (kl : Vec Ideal S1x8192x128 .bf16) (r : Fin 1024) (k : ℕ) : EReal :=
  if h : k < 256 then ∑ x : Fin 128, q (ix2 r x) * kc (ix3 0 ⟨k, h⟩ x)
  else if h : k - 256 < 8192 then ∑ x : Fin 128, q (ix2 r x) * kl (ix3 0 ⟨k - 256, h⟩ x) else 0

/-- Lane `j` of the value of key `k`. -/
def valueOf (vc : Vec Ideal S1x256x128 .bf16) (vl : Vec Ideal S1x8192x128 .bf16) (j : Fin 128) (k : ℕ) : EReal :=
  if h : k < 256 then vc (ix3 0 ⟨k, h⟩ j) else if h : k - 256 < 8192 then vl (ix3 0 ⟨k - 256, h⟩ j) else 0

/-- A score of the context. -/
theorem scoreOf_context (q kc kl) (r : Fin 1024) (k : Fin 256) :
    scoreOf q kc kl r k.val = ∑ x : Fin 128, q (ix2 r x) * kc (ix3 0 k x) := dif_pos k.isLt

/-- A score past the context. -/
theorem scoreOf_row (q kc kl) (r : Fin 1024) (n : Fin 8192) :
    scoreOf q kc kl r (256 + n.val) = ∑ x : Fin 128, q (ix2 r x) * kl (ix3 0 n x) := by
  have e : 256 + n.val - 256 = n.val := by omega
  unfold scoreOf
  rw [dif_neg (by omega), dif_pos (by omega)]
  refine Finset.sum_congr rfl fun x _ => ?_
  congr 3
  exact Fin.ext e

/-- A value of the context. -/
theorem valueOf_context (vc vl) (j : Fin 128) (k : Fin 256) : valueOf vc vl j k.val = vc (ix3 0 k j) := dif_pos k.isLt

/-- A value past the context. -/
theorem valueOf_row (vc vl) (j : Fin 128) (n : Fin 8192) : valueOf vc vl j (256 + n.val) = vl (ix3 0 n j) := by
  have e : 256 + n.val - 256 = n.val := by omega
  unfold valueOf
  rw [dif_neg (by omega), dif_pos (by omega)]
  congr 2
  exact Fin.ext e

/-- The fill of the maxima. -/
theorem pay26_apply (p : Fin 2) (r : Fin 1024) (j : Fin 128) : (k0_pay26 : FVec Ideal S2x1024x128 .f32) (ix3 p r j) = floorWord := by
  unfold floorWord
  pointwise [k0_pay26]

/-- The fill of the lane sums. -/
theorem pay27_apply (p : Fin 2) (r : Fin 1024) (j : Fin 128) : (k0_pay27 : FVec Ideal S2x1024x128 .f32) (ix3 p r j) = 0 := by
  pointwise [k0_pay27]

/-- The fill of the weighted sums. -/
theorem pay28_apply (p : Fin 2) (r : Fin 1024) (j : Fin 128) : (k0_pay28 : FVec Ideal S2x1024x128 .f32) (ix3 p r j) = 0 := by
  pointwise [k0_pay28]

/-- The mixing weight of the two maps, from the four rows of `x5`. -/
def lamOf (x5 : Vec Ideal S4x64 .f32) : EReal :=
  Ideal.exp (∑ x : Fin 64, x5 (ix2 0 x) * x5 (ix2 1 x)) - Ideal.exp (∑ x : Fin 64, x5 (ix2 2 x) * x5 (ix2 3 x)) + Ideal.ofBits .f32 0x3E4CCCCD#32

/-- The difference of the two maps' outputs at a row and a lane. -/
def diffOf (lam : EReal) (L0 L1 A0 A1 : Fin 128 → EReal) (j : Fin 128) : EReal :=
  Ideal.div (A0 j) (∑ x, L0 x) - lam * Ideal.div (A1 j) (∑ x, L1 x)

/-- The row's last step: its root mean square divided out, the gain and the constant factor multiplied on. -/
def normOf (o g : Fin 128 → EReal) (j : Fin 128) : EReal :=
  o j * Ideal.rsqrt (Ideal.div (∑ x, o x * o x) (Ideal.ofBits .f32 0x43000000#32) + Ideal.ofBits .f32 0x358637BD#32) * g j * Ideal.ofBits .f32 0x3F4CCCCD#32

/-- The difference as the body computes it. -/
theorem pay48_apply (x5 : Vec Ideal S4x64 .f32) (L0 L1 A0 A1 : Vec Ideal S1x1024x128 .f32) (r : Fin 1024) (j : Fin 128) :
    k0_pay48 x5 L0 L1 A0 A1 (ix2 r j)
      = diffOf (lamOf x5) (fun x => L0 (ix3 0 r x)) (fun x => L1 (ix3 0 r x)) (fun x => A0 (ix3 0 r x)) (fun x => A1 (ix3 0 r x)) j := by
  unfold diffOf lamOf
  pointwise [k0_pay48]

/-- The mean square as the body computes it. -/
theorem pay49_apply (x5 : Vec Ideal S4x64 .f32) (L0 L1 A0 A1 : Vec Ideal S1x1024x128 .f32) (r : Fin 1024) :
    k0_pay49 x5 L0 L1 A0 A1 (ix2 r 0)
      = Ideal.div (∑ x : Fin 128, k0_pay48 x5 L0 L1 A0 A1 (ix2 r x) * k0_pay48 x5 L0 L1 A0 A1 (ix2 r x)) (Ideal.ofBits .f32 0x43000000#32) := by
  pointwise [k0_pay49]

/-- The output's last step as the body computes it. -/
theorem pay1_apply (O : FVec Ideal S1024x128 .f32) (Q : FVec Ideal S1024x1 .f32) (g : Vec Ideal S1x128 .f32) (r : Fin 1024) (j : Fin 128) :
    k0_pay1 O Q g (ix3 0 r j)
      = O (ix2 r j) * Ideal.rsqrt (Q (ix2 r 0) + Ideal.ofBits .f32 0x358637BD#32) * g (ix2 0 j) * Ideal.ofBits .f32 0x3F4CCCCD#32 := by
  pointwise [k0_pay1]

/-- The whole last step at an index. -/
theorem last_apply (x5 : Vec Ideal S4x64 .f32) (g : Vec Ideal S1x128 .f32) (L0 L1 A0 A1 : Vec Ideal S1x1024x128 .f32) (r : Fin 1024) (j : Fin 128) :
    k0_pay1 (k0_pay48 x5 L0 L1 A0 A1) (k0_pay49 x5 L0 L1 A0 A1) g (ix3 0 r j)
      = normOf (diffOf (lamOf x5) (fun x => L0 (ix3 0 r x)) (fun x => L1 (ix3 0 r x)) (fun x => A0 (ix3 0 r x)) (fun x => A1 (ix3 0 r x)))
          (fun x => g (ix2 0 x)) j := by
  rw [pay1_apply, pay49_apply]
  simp only [pay48_apply]
  rfl

/-- The zeros the body writes. -/
theorem pay2_apply (y : S3072x128.Idx) : k0_pay2 y = 0 := by
  unfold k0_pay2
  rfl

/-- THE ATTENTION BLOCK at an index, from the two maps' running sums over all 66 blocks of keys. -/
theorem out7_apply (c : Dev nD) (i : grid0.Coords) (arg3 : Memref sig .tc .vmem S1x1024x128 .bf16) (harg3 : arg3.IsWhole) (arg4 : Memref sig .tc .vmem S1x256x128 .bf16) (harg4 : arg4.IsWhole) (arg5 : Memref sig .tc .vmem S1x256x128 .bf16) (harg5 : arg5.IsWhole) (arg6 : Memref sig .tc .vmem S1x8192x128 .bf16) (harg6 : arg6.IsWhole) (arg7 : Memref sig .tc .vmem S1x8192x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S3072x128 .i32) (harg11 : arg11.IsWhole) (arg12 : Memref sig .tc .vmem S2x1024x128 .f32) (harg12 : arg12.IsWhole) (arg13 : Memref sig .tc .vmem S2x1024x128 .f32) (harg13 : arg13.IsWhole) (arg14 : Memref sig .tc .vmem S2x1024x128 .f32) (harg14 : arg14.IsWhole)
    (x0 : Vec Ideal S1x1024x128 .bf16) (x1 : Vec Ideal S1x256x128 .bf16) (x2 : Vec Ideal S1x256x128 .bf16) (x3 : Vec Ideal S1x8192x128 .bf16) (x4 : Vec Ideal S1x8192x128 .bf16) (x5 : Vec Ideal S4x64 .f32) (x6 : Vec Ideal S1x128 .f32) (hfl : floorWord ≠ ⊥) (r : Fin 1024) (j : Fin 128) :
    out0_A_7 c i arg3 harg3 arg4 harg4 arg5 harg5 arg6 harg6 arg7 harg7 arg8 harg8 arg9 harg9 arg10 harg10 arg11 harg11 arg12 harg12 arg13 harg13 arg14 harg14 x0 x1 x2 x3 x4 x5 x6 (ix3 0 r j)
      = normOf (diffOf (lamOf x5)
          (fun x => runLane floorWord (scoreOf (k0_pay24 x0) x1 x3 r) 66 x.val)
          (fun x => runLane floorWord (scoreOf (k0_pay25 x0) x1 x3 r) 66 x.val)
          (fun x => runAcc floorWord (scoreOf (k0_pay24 x0) x1 x3 r) (valueOf x2 x4 x) (128 * 66))
          (fun x => runAcc floorWord (scoreOf (k0_pay25 x0) x1 x3 r) (valueOf x2 x4 x) (128 * 66)))
          (fun x => x6 (ix2 0 x)) j := by
  frame_out
  rw [last_apply]
  unfold View.readCov
  simp only [load_plane0, load_plane1, View.writes_append]
  generalize hT : pb_k0_t1 (F := Ideal) _ _ _ _ _ _ _ _ _ _ _ _ _ _ _ _ _ _ _ _ _ _ _ _ _ _ _ _ _ _ _ _ _ _ _ _ _ _ _ = T
  have hM0 : ∀ (f : BufTy.Contents (Elt Ideal) arg12.view.ty) (r : Fin 1024) (j : Fin 128), (arg12.view.readAt (Elt Ideal)
      (Rect.unit (s := S2x1024x128) ![0, 0, 0] ![1, 1024, 128] inb_S2x1024x128_S1x1024x128_0_0_0).toLoadRect
      (arg12.view.writes (Elt Ideal) f [⟨Rect.unit (s := S2x1024x128) ![0, 0, 0] ![2, 1024, 128] inb_S2x1024x128_S2x1024x128_0_0_0, k0_pay26 (F := Ideal)⟩])
      : Vec Ideal S1x1024x128 .f32) (ix3 0 r j) = floorWord :=
    fun f r j => (load_plane0 arg12 _ r j).trans ((store_fill arg12 f [] r j (k0_pay26 (F := Ideal)) 0).trans (pay26_apply 0 r j))
  have hM1 : ∀ (f : BufTy.Contents (Elt Ideal) arg12.view.ty) (w : Vec Ideal S1x1024x128 .f32) (r : Fin 1024) (j : Fin 128), (arg12.view.readAt (Elt Ideal)
      (Rect.unit (s := S2x1024x128) ![1, 0, 0] ![1, 1024, 128] inb_S2x1024x128_S1x1024x128_1_0_0).toLoadRect
      (arg12.view.writes (Elt Ideal) f [⟨Rect.unit (s := S2x1024x128) ![0, 0, 0] ![1, 1024, 128] inb_S2x1024x128_S1x1024x128_0_0_0, w⟩,
        ⟨Rect.unit (s := S2x1024x128) ![0, 0, 0] ![2, 1024, 128] inb_S2x1024x128_S2x1024x128_0_0_0, k0_pay26 (F := Ideal)⟩])
      : Vec Ideal S1x1024x128 .f32) (ix3 0 r j) = floorWord :=
    fun f w r j => (load_plane1 arg12 _ r j).trans
      ((store_plane0_other arg12 f w _ r j).trans ((store_fill arg12 f [] r j (k0_pay26 (F := Ideal)) 1).trans (pay26_apply 1 r j)))
  have hS0 : ∀ (r : Fin 1024) (k : Fin 256), k0_pay31 x0 x1 (ix2 r k) = scoreOf (k0_pay24 x0) x1 x3 r k.val := fun r k => by
    rw [pay31_eq, pay39_apply, scoreOf_context]
  have hS1 : ∀ (r : Fin 1024) (k : Fin 256), k0_pay39 (k0_pay25 x0) (k0_pay29 x1) (ix2 r k) = scoreOf (k0_pay25 x0) x1 x3 r k.val := fun r k => by
    rw [pay39_apply, scoreOf_context]
  have hV : ∀ (k : Fin 256) (j : Fin 128), x2 (ix3 0 k j) = valueOf x2 x4 j k.val := fun k j => (valueOf_context x2 x4 j k).symm
  have key := fun h0 h1 => loop_planes _ _ _ _ _ _ _ _ _ _ _ _ _ _ _ _ _ _ _ _ _ _ _ _ _ _ _ _ _ _ _ _ _ _ _ hfl
    (scoreOf (k0_pay24 x0) x1 x3) (scoreOf (k0_pay25 x0) x1 x3) (valueOf x2 x4)
    (fun r n => by rw [scoreOf_row, harg6.read_unread]) (fun r n => by rw [scoreOf_row, harg6.read_unread])
    (fun n j => by rw [valueOf_row, harg7.read_unread]) _ _ _ h0 h1 _ (le_of_eq trips_eq) T hT.symm
  clear hT
  obtain ⟨P0, P1⟩ := key
    ⟨fun r j => by
        rw [store_plane0, pay38_apply]
        exact first_max _ _ _ hS0 (hM0 _) r j,
      fun r j => by
        rw [store_plane0]
        exact first_lane _ _ _ _ hS0 (hM0 _) (fun r j => (load_plane0 arg13 _ r j).trans ((store_fill arg13 _ [] r j (k0_pay27 (F := Ideal)) 0).trans (pay27_apply 0 r j))) r j,
      fun r j => by
        rw [store_plane0]
        exact first_acc _ _ _ _ _ _ hS0 hV (hM0 _) (fun r j => (load_plane0 arg14 _ r j).trans ((store_fill arg14 _ [] r j (k0_pay28 (F := Ideal)) 0).trans (pay28_apply 0 r j))) r j⟩
    ⟨fun r j => by
        rw [store_plane1, pay46_eq, pay38_apply]
        exact first_max _ _ _ hS1 (hM1 _ _) r j,
      fun r j => by
        rw [store_plane1, pay44_eq]
        exact first_lane _ _ _ _ hS1 (hM1 _ _) (fun r j => (load_plane1 arg13 _ r j).trans
          ((store_plane0_other arg13 _ _ _ r j).trans ((store_fill arg13 _ [] r j (k0_pay27 (F := Ideal)) 1).trans (pay27_apply 1 r j)))) r j,
      fun r j => by
        rw [store_plane1, pay45_eq]
        exact first_acc _ _ _ _ _ _ hS1 hV (hM1 _ _) (fun r j => (load_plane1 arg14 _ r j).trans
          ((store_plane0_other arg14 _ _ _ r j).trans ((store_fill arg14 _ [] r j (k0_pay28 (F := Ideal)) 1).trans (pay28_apply 1 r j)))) r j⟩
  clear key
  simp only [P0.lane, P0.acc, P1.lane, P1.acc, trips_eq]

/-- THE ZEROS at an index. -/
theorem out8_apply (c : Dev nD) (i : grid0.Coords) (arg3 : Memref sig .tc .vmem S1x1024x128 .bf16) (harg3 : arg3.IsWhole) (arg4 : Memref sig .tc .vmem S1x256x128 .bf16) (harg4 : arg4.IsWhole) (arg5 : Memref sig .tc .vmem S1x256x128 .bf16) (harg5 : arg5.IsWhole) (arg6 : Memref sig .tc .vmem S1x8192x128 .bf16) (harg6 : arg6.IsWhole) (arg7 : Memref sig .tc .vmem S1x8192x128 .bf16) (harg7 : arg7.IsWhole) (arg8 : Memref sig .tc .vmem S4x64 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S3072x128 .i32) (harg11 : arg11.IsWhole) (arg12 : Memref sig .tc .vmem S2x1024x128 .f32) (harg12 : arg12.IsWhole) (arg13 : Memref sig .tc .vmem S2x1024x128 .f32) (harg13 : arg13.IsWhole) (arg14 : Memref sig .tc .vmem S2x1024x128 .f32) (harg14 : arg14.IsWhole)
    (x0 : Vec Ideal S1x1024x128 .bf16) (x1 : Vec Ideal S1x256x128 .bf16) (x2 : Vec Ideal S1x256x128 .bf16) (x3 : Vec Ideal S1x8192x128 .bf16) (x4 : Vec Ideal S1x8192x128 .bf16) (x5 : Vec Ideal S4x64 .f32) (x6 : Vec Ideal S1x128 .f32) (y : S3072x128.Idx) :
    out0_A_8 c i arg3 harg3 arg4 harg4 arg5 harg5 arg6 harg6 arg7 harg7 arg8 harg8 arg9 harg9 arg10 harg10 arg11 harg11 arg12 harg12 arg13 harg13 arg14 harg14 x0 x1 x2 x3 x4 x5 x6 y = 0 := by
  frame_out
  exact pay2_apply y

end Cert.KernelIdeal.Body

end
-- ==== Proof.Entry.lean ====
/- What the kernel's grid points read: the arrays the host prepares from the arguments, and each input block as a
   part of its array. -/
module

public import proofs.«01_k».proof.Proof.Gen.KernelIdeal.Value
public import Idealize.ShloMosaic.Lib.Pipeline.ValueKit
public import Idealize.ShloMosaic.Lib.Pointwise
public import Idealize.ShloMosaic.Lib.StableHlo.RunRead

@[expose] public section

set_option maxRecDepth 16384

noncomputable section

namespace Cert.KernelIdeal.Entry

open Cert.KernelIdeal Cert.KernelIdeal.Gen Idealize.ShloMosaic Idealize.ShloMosaic.TcCoe Idealize.SL.Sem Idealize.ShloMosaic.Pointwise

/-- Every window's block index at a grid point, from the output's: the head and the batch shared, the rows only for the queries. -/
theorem idx : ∀ t : Fin cfg0.N, win0_7.index t 0 < 2 ∧ win0_7.index t 1 < 8 ∧ win0_7.index t 2 < 4
    ∧ win0_0.index t = ![win0_7.index t 0, win0_7.index t 1, win0_7.index t 2]
    ∧ win0_1.index t = ![win0_7.index t 0, 0, win0_7.index t 2] ∧ win0_2.index t = ![win0_7.index t 0, 0, win0_7.index t 2]
    ∧ win0_3.index t = ![win0_7.index t 0, 0, win0_7.index t 2] ∧ win0_4.index t = ![win0_7.index t 0, 0, win0_7.index t 2]
    ∧ win0_5.index t = ![0, 0] ∧ win0_6.index t = ![0, 0] :=
  (by decide +kernel : ∀ t : Fin grid0.N, _)

/-- The batch of a grid point. -/
def batchOf (t : Fin cfg0.N) : Fin 2 := ⟨win0_7.index t 0, (idx t).1⟩

/-- The array row of a grid point's row. -/
def rowOf (t : Fin cfg0.N) (r : Fin 1024) : Fin 8192 := ⟨win0_7.index t 1 * 1024 + r.val, by have := (idx t).2.1; omega⟩

/-- The head of a grid point. -/
def headOf (t : Fin cfg0.N) : Fin 4 := ⟨win0_7.index t 2, (idx t).2.2.1⟩

/-- Lane `x` of head `h` among all 512 lanes. -/
def lane (h : Fin 4) (x : Fin 128) : Fin 512 := ⟨h.val * 128 + x.val, by omega⟩

variable (m : (ℓ : Loc nD τ sig) → Buf (Elt Ideal) ℓ)

/-- The queries, the kernel's first argument. -/
def queries (c : Dev nD) : FVec Ideal S2x8192x512 .f32 := m ((c : Thread nD τ).loc main_arg0)

/-- The queries as the launch finds them: the argument times the host's factor. -/
theorem entry_q (c : Dev nD) (b : Fin 2) (n : Fin 8192) (l : Fin 512) :
    V m c main_v4 (ix3 b n l)
      = queries m c (ix3 b n l) * Ideal.div (Ideal.ofBits .f32 0x3E000000#32) (Ideal.log (Ideal.ofBits .f32 0x40000000#32)) := by
  unfold queries
  entry_read
  pointwise

/-- The context's keys, a change of format. -/
theorem entry_kc (c : Dev nD) (b : Fin 2) (n : Fin 256) (l : Fin 512) : V m c main_v14 (ix3 b n l) = m ((c : Thread nD τ).loc main_arg1) (ix3 b n l) := by
  entry_read
  pointwise

/-- The context's values, a change of format. -/
theorem entry_vc (c : Dev nD) (b : Fin 2) (n : Fin 256) (l : Fin 512) : V m c main_v15 (ix3 b n l) = m ((c : Thread nD τ).loc main_arg2) (ix3 b n l) := by
  entry_read
  pointwise

/-- The rows' keys, a change of format. -/
theorem entry_kl (c : Dev nD) (b : Fin 2) (n : Fin 8192) (l : Fin 512) : V m c main_v16 (ix3 b n l) = m ((c : Thread nD τ).loc main_arg3) (ix3 b n l) := by
  entry_read
  pointwise

/-- The rows' values, a change of format. -/
theorem entry_vl (c : Dev nD) (b : Fin 2) (n : Fin 8192) (l : Fin 512) : V m c main_v17 (ix3 b n l) = m ((c : Thread nD τ).loc main_arg4) (ix3 b n l) := by
  entry_read
  pointwise

/-- The gain. -/
theorem entry_g (c : Dev nD) (l : Fin 128) : V m c main_v19 (ix2 0 l) = m ((c : Thread nD τ).loc main_arg9) (ix2 0 l) := by
  entry_read
  pointwise

/-- Four rows stacked, read at a row. -/
theorem stack_rows (A B C D : FVec Ideal S1x64 .f32) (x : Fin 64) (h) :
    concatenate S4x64 0 [⟨S1x64, A⟩, ⟨S1x64, B⟩, ⟨S1x64, C⟩, ⟨S1x64, D⟩] h (ix2 0 x) = A (ix2 0 x)
      ∧ concatenate S4x64 0 [⟨S1x64, A⟩, ⟨S1x64, B⟩, ⟨S1x64, C⟩, ⟨S1x64, D⟩] h (ix2 1 x) = B (ix2 0 x)
      ∧ concatenate S4x64 0 [⟨S1x64, A⟩, ⟨S1x64, B⟩, ⟨S1x64, C⟩, ⟨S1x64, D⟩] h (ix2 2 x) = C (ix2 0 x)
      ∧ concatenate S4x64 0 [⟨S1x64, A⟩, ⟨S1x64, B⟩, ⟨S1x64, C⟩, ⟨S1x64, D⟩] h (ix2 3 x) = D (ix2 0 x) := by
  refine ⟨?_, ?_, ?_, ?_⟩ <;> pointwise

/-- The mixing weight's four vectors are stacked on the host. -/
theorem entry_stack (c : Dev nD) : V m c main_v13 = concatenate S4x64 0 [⟨S1x64, V m c main_v9⟩, ⟨S1x64, V m c main_v10⟩, ⟨S1x64, V m c main_v11⟩,
    ⟨S1x64, V m c main_v12⟩] concatenates_S1x64_S1x64_S1x64_S1x64_S4x64_d0 := by
  have e9 : StableHlo.upto hostOps0 (fun b => m (c, b)) 15 (Proc.devRef .tc main_v9) = V m c main_v9 :=
    (StableHlo.upto_last_write (i := 11) [main_v10, main_v11, main_v12] rfl rfl (by decide) _).trans
      (StableHlo.after_last_write (i := 11) [main_v10, main_v11, main_v12, main_v13, main_v14, main_v15, main_v16, main_v17, main_v18, main_v19] rfl rfl (by decide) _).symm
  have e10 : StableHlo.upto hostOps0 (fun b => m (c, b)) 15 (Proc.devRef .tc main_v10) = V m c main_v10 :=
    (StableHlo.upto_last_write (i := 12) [main_v11, main_v12] rfl rfl (by decide) _).trans
      (StableHlo.after_last_write (i := 12) [main_v11, main_v12, main_v13, main_v14, main_v15, main_v16, main_v17, main_v18, main_v19] rfl rfl (by decide) _).symm
  have e11 : StableHlo.upto hostOps0 (fun b => m (c, b)) 15 (Proc.devRef .tc main_v11) = V m c main_v11 :=
    (StableHlo.upto_last_write (i := 13) [main_v12] rfl rfl (by decide) _).trans
      (StableHlo.after_last_write (i := 13) [main_v12, main_v13, main_v14, main_v15, main_v16, main_v17, main_v18, main_v19] rfl rfl (by decide) _).symm
  have e12 : StableHlo.upto hostOps0 (fun b => m (c, b)) 15 (Proc.devRef .tc main_v12) = V m c main_v12 :=
    (StableHlo.upto_last_write (i := 14) [] rfl rfl (by decide) _).trans
      (StableHlo.after_last_write (i := 14) [main_v13, main_v14, main_v15, main_v16, main_v17, main_v18, main_v19] rfl rfl (by decide) _).symm
  refine (StableHlo.after_last_write (i := 15) [main_v14, main_v15, main_v16, main_v17, main_v18, main_v19] rfl rfl (by decide) _).trans ?_
  refine (StableHlo.nary_result _ _ _ _ _ _).trans ?_
  show concatenate S4x64 0 [⟨S1x64, StableHlo.upto hostOps0 (fun b => m (c, b)) 15 (Proc.devRef .tc main_v9)⟩,
    ⟨S1x64, StableHlo.upto hostOps0 (fun b => m (c, b)) 15 (Proc.devRef .tc main_v10)⟩, ⟨S1x64, StableHlo.upto hostOps0 (fun b => m (c, b)) 15 (Proc.devRef .tc main_v11)⟩,
    ⟨S1x64, StableHlo.upto hostOps0 (fun b => m (c, b)) 15 (Proc.devRef .tc main_v12)⟩] _ = _
  rw [e9, e10, e11, e12]

/-- The first vector of the mixing weight, a row. -/
theorem entry_row0 (c : Dev nD) (x : Fin 64) : V m c main_v9 (ix2 0 x) = m ((c : Thread nD τ).loc main_arg5) (ix2 0 x) := by
  entry_read
  pointwise

/-- The second vector of the mixing weight, a row. -/
theorem entry_row1 (c : Dev nD) (x : Fin 64) : V m c main_v10 (ix2 0 x) = m ((c : Thread nD τ).loc main_arg6) (ix2 0 x) := by
  entry_read
  pointwise

/-- The third vector of the mixing weight, a row. -/
theorem entry_row2 (c : Dev nD) (x : Fin 64) : V m c main_v11 (ix2 0 x) = m ((c : Thread nD τ).loc main_arg7) (ix2 0 x) := by
  entry_read
  pointwise

/-- The fourth vector of the mixing weight, a row. -/
theorem entry_row3 (c : Dev nD) (x : Fin 64) : V m c main_v12 (ix2 0 x) = m ((c : Thread nD τ).loc main_arg8) (ix2 0 x) := by
  entry_read
  pointwise

/-- The first vector of the mixing weight, row 0 of the stack. -/
theorem entry_lam0 (c : Dev nD) (x : Fin 64) : V m c main_v13 (ix2 0 x) = m ((c : Thread nD τ).loc main_arg5) (ix2 0 x) := by
  rw [entry_stack]
  exact (stack_rows _ _ _ _ x _).1.trans (entry_row0 m c x)

/-- The second vector of the mixing weight, row 1 of the stack. -/
theorem entry_lam1 (c : Dev nD) (x : Fin 64) : V m c main_v13 (ix2 1 x) = m ((c : Thread nD τ).loc main_arg6) (ix2 0 x) := by
  rw [entry_stack]
  exact (stack_rows _ _ _ _ x _).2.1.trans (entry_row1 m c x)

/-- The third vector of the mixing weight, row 2 of the stack. -/
theorem entry_lam2 (c : Dev nD) (x : Fin 64) : V m c main_v13 (ix2 2 x) = m ((c : Thread nD τ).loc main_arg7) (ix2 0 x) := by
  rw [entry_stack]
  exact (stack_rows _ _ _ _ x _).2.2.1.trans (entry_row2 m c x)

/-- The fourth vector of the mixing weight, row 3 of the stack. -/
theorem entry_lam3 (c : Dev nD) (x : Fin 64) : V m c main_v13 (ix2 3 x) = m ((c : Thread nD τ).loc main_arg8) (ix2 0 x) := by
  rw [entry_stack]
  exact (stack_rows _ _ _ _ x _).2.2.2.trans (entry_row3 m c x)

/-- A block of queries. -/
theorem block_q (c : Dev nD) (t : Fin cfg0.N) (r : Fin 1024) (x : Fin 128) :
    iblk m c 0 t (ix3 0 r x) = V m c main_v4 (ix3 (batchOf t) (rowOf t r) (lane (headOf t) x)) := by
  blk_ext! [iblk, idx t, batchOf, rowOf, lane, headOf]

/-- The block of the context's keys. -/
theorem block_kc (c : Dev nD) (t : Fin cfg0.N) (k : Fin 256) (x : Fin 128) :
    iblk m c 1 t (ix3 0 k x) = V m c main_v14 (ix3 (batchOf t) k (lane (headOf t) x)) := by
  blk_ext! [iblk, idx t, batchOf, lane, headOf]

/-- The block of the context's values. -/
theorem block_vc (c : Dev nD) (t : Fin cfg0.N) (k : Fin 256) (x : Fin 128) :
    iblk m c 2 t (ix3 0 k x) = V m c main_v15 (ix3 (batchOf t) k (lane (headOf t) x)) := by
  blk_ext! [iblk, idx t, batchOf, lane, headOf]

/-- The block of the rows' keys. -/
theorem block_kl (c : Dev nD) (t : Fin cfg0.N) (k : Fin 8192) (x : Fin 128) :
    iblk m c 3 t (ix3 0 k x) = V m c main_v16 (ix3 (batchOf t) k (lane (headOf t) x)) := by
  blk_ext! [iblk, idx t, batchOf, lane, headOf]

/-- The block of the rows' values. -/
theorem block_vl (c : Dev nD) (t : Fin cfg0.N) (k : Fin 8192) (x : Fin 128) :
    iblk m c 4 t (ix3 0 k x) = V m c main_v17 (ix3 (batchOf t) k (lane (headOf t) x)) := by
  blk_ext! [iblk, idx t, batchOf, lane, headOf]

/-- The block of the mixing weight's vectors. -/
theorem block_lam (c : Dev nD) (t : Fin cfg0.N) (a : Fin 4) (x : Fin 64) : iblk m c 5 t (ix2 a x) = V m c main_v13 (ix2 a x) := by
  blk_ext! [iblk, idx t]

/-- The block of the gain. -/
theorem block_g (c : Dev nD) (t : Fin cfg0.N) (x : Fin 128) : iblk m c 6 t (ix2 0 x) = V m c main_v19 (ix2 0 x) := by
  blk_ext! [iblk, idx t]

end Cert.KernelIdeal.Entry

end
-- ==== Proof.Array.lean ====
/- The kernel's two result arrays as functions of its arguments: at every row and lane the difference of the two attention maps'
   outputs, normalised; and zeros. -/
module

public import proofs.«01_k».proof.Proof.Body
public import proofs.«01_k».proof.Proof.Entry

@[expose] public section

set_option maxRecDepth 16384

noncomputable section

namespace Cert.KernelIdeal.Array

open Cert.KernelIdeal Cert.KernelIdeal.Gen Idealize.ShloMosaic Idealize.ShloMosaic.TcCoe Idealize.SL.Sem Idealize.ShloMosaic.Pointwise
open Cert.KernelIdeal.Body Cert.KernelIdeal.Entry Cert.Softmax

/-- Lane `l` of entry `k` of the context's 256 rows followed by the 8192 rows: the joined keys, and the joined values. -/
def joined (C : FVec Ideal S2x256x512 .f32) (L : FVec Ideal S2x8192x512 .f32) (b : Fin 2) (l : Fin 512) (k : ℕ) : EReal :=
  if h : k < 256 then C (ix3 b ⟨k, h⟩ l) else if h : k - 256 < 8192 then L (ix3 b ⟨k - 256, h⟩ l) else 0

/-- Lane `d` of map `p` of head `h` among all 512 lanes. -/
def mapLane (h : Fin 4) (p : Fin 2) (d : Fin 64) : Fin 512 := ⟨h.val * 128 + p.val * 64 + d.val, by omega⟩

/-- The host's factor of the queries. -/
def hostScale : EReal := Ideal.div (Ideal.ofBits .f32 0x3E000000#32) (Ideal.log (Ideal.ofBits .f32 0x40000000#32))

/-- The kernel's score of key `k` for row `n`, in map `p` of head `h`. -/
def kerScore (Q : FVec Ideal S2x8192x512 .f32) (KC : FVec Ideal S2x256x512 .f32) (KL : FVec Ideal S2x8192x512 .f32) (b : Fin 2) (h : Fin 4) (p : Fin 2)
    (n : Fin 8192) (k : ℕ) : EReal :=
  ∑ d : Fin 64, Q (ix3 b n (mapLane h p d)) * hostScale * joined KC KL b (mapLane h p d) k

/-- The weight of the second map. -/
def mixOf (A B C D : FVec Ideal S1x64 .f32) : EReal :=
  Ideal.exp (∑ x : Fin 64, A (ix2 0 x) * B (ix2 0 x)) - Ideal.exp (∑ x : Fin 64, C (ix2 0 x) * D (ix2 0 x)) + Ideal.ofBits .f32 0x3E4CCCCD#32

/-- The kernel's result at row `n` of batch `b`, lane `j` of head `h`. -/
def kerOut (Q : FVec Ideal S2x8192x512 .f32) (KC VC : FVec Ideal S2x256x512 .f32) (KL VL : FVec Ideal S2x8192x512 .f32) (lam : EReal)
    (G : FVec Ideal S1x128 .f32) (b : Fin 2) (n : Fin 8192) (h : Fin 4) (j : Fin 128) : EReal :=
  normOf (diffOf lam
      (fun x => runLane floorWord (kerScore Q KC KL b h 0 n) 66 x.val)
      (fun x => runLane floorWord (kerScore Q KC KL b h 1 n) 66 x.val)
      (fun x => runAcc floorWord (kerScore Q KC KL b h 0 n) (joined VC VL b (lane h x)) (128 * 66))
      (fun x => runAcc floorWord (kerScore Q KC KL b h 1 n) (joined VC VL b (lane h x)) (128 * 66)))
    (fun x => G (ix2 0 x)) j

/-- A sum over 128 lanes that are zero past the first 64. -/
theorem sum_first (f : Fin (64 + 64) → EReal) : (∑ x : Fin (64 + 64), if x.val < 64 then f x else 0) = ∑ d : Fin 64, f ⟨d.val, by omega⟩ := by
  rw [Fin.sum_univ_add, Finset.sum_congr rfl fun x _ => if_pos (show (Fin.castAdd 64 x : Fin (64 + 64)).val < 64 from x.isLt),
    Finset.sum_congr (s₁ := Finset.univ) rfl fun x _ => if_neg (show ¬ (Fin.natAdd 64 x : Fin (64 + 64)).val < 64 by simp), Finset.sum_const_zero, add_zero]
  rfl

/-- A sum over 128 lanes that are zero before the last 64. -/
theorem sum_last (f : Fin (64 + 64) → EReal) : (∑ x : Fin (64 + 64), if 64 ≤ x.val then f x else 0) = ∑ d : Fin 64, f ⟨64 + d.val, by omega⟩ := by
  rw [Fin.sum_univ_add, Finset.sum_congr (s₁ := Finset.univ) rfl fun x _ => if_neg (show ¬ 64 ≤ (Fin.castAdd 64 x : Fin (64 + 64)).val by simp),
    Finset.sum_const_zero, zero_add, Finset.sum_congr rfl fun x _ => if_pos (show 64 ≤ (Fin.natAdd 64 x : Fin (64 + 64)).val by simp)]
  rfl

/-- The queries of the first map: the last 64 lanes are zero. -/
theorem pay24_apply (q : Vec Ideal S1x1024x128 .bf16) (i : Fin 1024) (x : Fin 128) :
    k0_pay24 q (ix2 i x) = if x.val < 64 then (q (ix3 0 i x) : EReal) else 0 := by
  have e : ∀ x : Fin 128, IntOp.cmpi .slt (BitVec.ofNat 32 x.val) 64#32 = if x.val < 64 then 1#1 else 0#1 := by decide
  have h : k0_pay24 q (ix2 i x) = Scalar.select (IntOp.cmpi .slt (BitVec.ofNat 32 x.val) 64#32) (q (ix3 0 i x) : EReal) 0 := by
    pointwise [k0_pay24, k0_pay22, k0_pay23]
  rw [h, e]
  split <;> rfl

/-- The queries of the second map: the first 64 lanes are zero. -/
theorem pay25_apply (q : Vec Ideal S1x1024x128 .bf16) (i : Fin 1024) (x : Fin 128) :
    k0_pay25 q (ix2 i x) = if 64 ≤ x.val then (q (ix3 0 i x) : EReal) else 0 := by
  have e : ∀ x : Fin 128, IntOp.cmpi .sge (BitVec.ofNat 32 x.val) 64#32 = if 64 ≤ x.val then 1#1 else 0#1 := by decide
  have h : k0_pay25 q (ix2 i x) = Scalar.select (IntOp.cmpi .sge (BitVec.ofNat 32 x.val) 64#32) (q (ix3 0 i x) : EReal) 0 := by
    pointwise [k0_pay25, k0_pay22, k0_pay23]
  rw [h, e]
  split <;> rfl

/-- The floor the running maximum starts at is not minus infinity. -/
theorem floor_ne_bot : floorWord ≠ ⊥ := by
  unfold floorWord
  simp [Ideal.ofBits, Ideal.ieee]
  exact_mod_cast EReal.coe_ne_top (13234890 * 2 ^ 76)

/-- The first map's product with a key, over its own 64 lanes. -/
theorem dot_first (q : Vec Ideal S1x1024x128 .bf16) (r : Fin 1024) (k : Fin 128 → EReal) :
    (∑ x : Fin 128, k0_pay24 q (ix2 r x) * k x : EReal) = ∑ d : Fin 64, (q (ix3 0 r ⟨d.val, by omega⟩) : EReal) * k ⟨d.val, by omega⟩ := by
  rw [Finset.sum_congr rfl fun x _ => (congrArg (· * k x) (pay24_apply q r x)).trans (ite_mul ..)]
  simp only [zero_mul]
  exact sum_first fun x => (q (ix3 0 r x) : EReal) * k x

/-- The second map's product with a key, over its own 64 lanes. -/
theorem dot_last (q : Vec Ideal S1x1024x128 .bf16) (r : Fin 1024) (k : Fin 128 → EReal) :
    (∑ x : Fin 128, k0_pay25 q (ix2 r x) * k x : EReal) = ∑ d : Fin 64, (q (ix3 0 r ⟨64 + d.val, by omega⟩) : EReal) * k ⟨64 + d.val, by omega⟩ := by
  rw [Finset.sum_congr rfl fun x _ => (congrArg (· * k x) (pay25_apply q r x)).trans (ite_mul ..)]
  simp only [zero_mul]
  exact sum_last fun x => (q (ix3 0 r x) : EReal) * k x

variable (m : (ℓ : Loc nD τ sig) → Buf (Elt Ideal) ℓ)

/-- The context's keys, an argument. -/
def contextKeys (c : Dev nD) : FVec Ideal S2x256x512 .f32 := m ((c : Thread nD τ).loc main_arg1)
/-- The context's values, an argument. -/
def contextValues (c : Dev nD) : FVec Ideal S2x256x512 .f32 := m ((c : Thread nD τ).loc main_arg2)
/-- The rows' keys, an argument. -/
def rowKeys (c : Dev nD) : FVec Ideal S2x8192x512 .f32 := m ((c : Thread nD τ).loc main_arg3)
/-- The rows' values, an argument. -/
def rowValues (c : Dev nD) : FVec Ideal S2x8192x512 .f32 := m ((c : Thread nD τ).loc main_arg4)
/-- The gain, an argument. -/
def gain (c : Dev nD) : FVec Ideal S1x128 .f32 := m ((c : Thread nD τ).loc main_arg9)
/-- The weight of the second map, from its four arguments. -/
def mix (c : Dev nD) : EReal :=
  mixOf (m ((c : Thread nD τ).loc main_arg5)) (m ((c : Thread nD τ).loc main_arg6)) (m ((c : Thread nD τ).loc main_arg7)) (m ((c : Thread nD τ).loc main_arg8))

/-- The kernel's first result as a function of its arguments. -/
def result (c : Dev nD) (b : Fin 2) (n : Fin 8192) (h : Fin 4) (j : Fin 128) : EReal :=
  kerOut (queries m c) (contextKeys m c) (contextValues m c) (rowKeys m c) (rowValues m c) (mix m c) (gain m c) b n h j

/-- A block's scores in the first map. -/
theorem score_first (c : Dev nD) (t : Fin cfg0.N) (r : Fin 1024) (k : ℕ) :
    scoreOf (k0_pay24 (iblk m c 0 t)) (iblk m c 1 t) (iblk m c 3 t) r k
      = kerScore (queries m c) (contextKeys m c) (rowKeys m c) (batchOf t) (headOf t) 0 (rowOf t r) k := by
  have hl : ∀ d : Fin 64, lane (headOf t) ⟨d.val, by omega⟩ = mapLane (headOf t) 0 d := fun d => Fin.ext (by simp [lane, mapLane])
  unfold scoreOf kerScore joined
  split
  · refine (dot_first (iblk m c 0 t) r _).trans (Finset.sum_congr rfl fun d _ => ?_)
    rw [block_q, block_kc, entry_q, entry_kc, hl]
    rfl
  split
  · refine (dot_first (iblk m c 0 t) r _).trans (Finset.sum_congr rfl fun d _ => ?_)
    rw [block_q, block_kl, entry_q, entry_kl, hl]
    rfl
  · simp

/-- A block's scores in the second map. -/
theorem score_last (c : Dev nD) (t : Fin cfg0.N) (r : Fin 1024) (k : ℕ) :
    scoreOf (k0_pay25 (iblk m c 0 t)) (iblk m c 1 t) (iblk m c 3 t) r k
      = kerScore (queries m c) (contextKeys m c) (rowKeys m c) (batchOf t) (headOf t) 1 (rowOf t r) k := by
  have hl : ∀ d : Fin 64, lane (headOf t) ⟨64 + d.val, by omega⟩ = mapLane (headOf t) 1 d := fun d => Fin.ext (by simp [lane, mapLane, add_assoc])
  unfold scoreOf kerScore joined
  split
  · refine (dot_last (iblk m c 0 t) r _).trans (Finset.sum_congr rfl fun d _ => ?_)
    rw [block_q, block_kc, entry_q, entry_kc, hl]
    rfl
  split
  · refine (dot_last (iblk m c 0 t) r _).trans (Finset.sum_congr rfl fun d _ => ?_)
    rw [block_q, block_kl, entry_q, entry_kl, hl]
    rfl
  · simp

/-- A block's values. -/
theorem value_block (c : Dev nD) (t : Fin cfg0.N) (x : Fin 128) (k : ℕ) :
    valueOf (iblk m c 2 t) (iblk m c 4 t) x k = joined (contextValues m c) (rowValues m c) (batchOf t) (lane (headOf t) x) k := by
  unfold valueOf joined
  split
  · rw [block_vc, entry_vc]
    rfl
  split
  · rw [block_vl, entry_vl]
    rfl
  · rfl

/-- A block's weight of the second map. -/
theorem lam_block (c : Dev nD) (t : Fin cfg0.N) : lamOf (iblk m c 5 t) = mix m c := by
  refine congrArg₂ (fun a b : EReal => Ideal.exp a - Ideal.exp b + Ideal.ofBits .f32 0x3E4CCCCD#32)
    (Finset.sum_congr rfl fun x _ => ?_) (Finset.sum_congr rfl fun x _ => ?_)
  · exact congrArg₂ (fun a b : EReal => a * b) ((block_lam m c t 0 x).trans (entry_lam0 m c x)) ((block_lam m c t 1 x).trans (entry_lam1 m c x))
  · exact congrArg₂ (fun a b : EReal => a * b) ((block_lam m c t 2 x).trans (entry_lam2 m c x)) ((block_lam m c t 3 x).trans (entry_lam3 m c x))

/-- The first result array at a block's row and lane. -/
theorem point7 (c : Dev nD) (t : Fin cfg0.N) (r : Fin 1024) (j : Fin 128) :
    (outsAt0 m c t).1 (ix3 0 r j) = result m c (batchOf t) (rowOf t r) (headOf t) j := by
  unfold outsAt0 result kerOut
  dsimp only
  rw [out7_apply (hfl := floor_ne_bot)]
  rw [lam_block m c t, funext (score_first m c t r), funext (score_last m c t r)]
  simp only [funext (value_block m c t _), block_g]
  exact congrArg (fun g => normOf _ g j) (funext fun x => entry_g m c x)

/-- The kernel's first result array. -/
theorem final7 (c : Dev nD) : (dats m 0 c).arrAt 7 cfg0.N = fun i =>
    result m c (i 0) (i 1) ⟨(i 2).val / 128, by have := (i 2).isLt; change _ < 512 at this; omega⟩ ⟨(i 2).val % 128, by omega⟩ := by
  refine (dats m 0 c).arrAt_eq_of_covers 7 _ (by decide +kernel) fun t hf y => ?_
  blk_simp
  rw [after0_7]
  have h1 : (y 1).val < 1024 := (y 1).isLt
  have h2 : (y 2).val < 128 := (y 2).isLt
  have hy : y = ix3 0 ⟨(y 1).val, h1⟩ ⟨(y 2).val, h2⟩ := by
    funext a
    fin_cases a
    · exact Fin.ext (by have : (y 0).val < 1 := (y 0).isLt; show (y 0).val = 0; omega)
    · rfl
    · rfl
  refine (congrArg (outsAt0 m c t).1 hy).trans ((point7 m c t ⟨(y 1).val, h1⟩ ⟨(y 2).val, h2⟩).trans ?_)
  have e0 : batchOf t = (win0_7.blk t).view.emb y 0 := Fin.ext (by blk_simp [batchOf])
  have e1 : rowOf t ⟨(y 1).val, h1⟩ = (win0_7.blk t).view.emb y 1 := Fin.ext (by blk_simp [rowOf])
  have e2 : headOf t = ⟨(win0_7.index t 2 * 128 + (y 2).val) / 128, by have := (idx t).2.2.1; omega⟩ := Fin.ext (by show win0_7.index t 2 = (win0_7.index t 2 * 128 + (y 2).val) / 128; omega)
  have e3 : (⟨(y 2).val, h2⟩ : Fin 128) = ⟨(win0_7.index t 2 * 128 + (y 2).val) % 128, by omega⟩ := Fin.ext (by show (y 2).val = (win0_7.index t 2 * 128 + (y 2).val) % 128; omega)
  rw [e0, e1, e2, e3]

/-- The kernel's second result array is zero. -/
theorem final8 (c : Dev nD) : (dats m 0 c).arrAt 8 cfg0.N = fun _ => 0#32 := by
  refine (dats m 0 c).arrAt_eq_of_covers 8 _ (by decide +kernel) fun t hf y => ?_
  blk_simp
  rw [after0_8]
  unfold outsAt0
  dsimp only
  exact out8_apply ..

end Cert.KernelIdeal.Array

end
-- ==== Proof.Reads.lean ====
/- The reference's stages at an index: scores, softmax weights, the difference of the two maps, the weighted values and the normalisation. -/
module

public import proofs.«01_k».proof.Proof.Array
public import proofs.«01_k».proof.Proof.Gen.ReferenceIdeal.Read

@[expose] public section

set_option maxRecDepth 16384

noncomputable section

namespace Cert.ReferenceIdeal.Reads

open Cert.ReferenceIdeal Cert.ReferenceIdeal.Read Idealize.ShloMosaic Idealize.ShloMosaic.Pointwise
open Cert.KernelIdeal.Array Cert.KernelIdeal.Entry Cert.KernelIdeal.Body Cert.Softmax

variable (x0 : FVec Ideal S2x8192x512 .f32) (x1 x2 : FVec Ideal S2x256x512 .f32) (x3 x4 : FVec Ideal S2x8192x512 .f32)
  (x5 x6 x7 x8 : FVec Ideal S1x64 .f32) (x9 : FVec Ideal S1x128 .f32)

/-- The queries, split by head and map. -/
theorem queries_apply (b : Fin 2) (n : Fin 8192) (h : Fin 4) (p : Fin 2) (d : Fin 64) :
    val_main_v12 (F := Ideal) x0 (ix5 b n h p d) = x0 (ix3 b n (mapLane h p d)) := by
  rw [val_main_v12_apply]
  congr 1
  funext a
  fin_cases a <;> refine Fin.ext ?_ <;> simp [mapLane] <;> omega

/-- The joined keys, split by head and map. -/
theorem keys_apply (b : Fin 2) (k : Fin 8448) (h : Fin 4) (p : Fin 2) (d : Fin 64) :
    val_main_v15 (F := Ideal) x1 x3 (ix5 b k h p d) = joined x1 x3 b (mapLane h p d) k.val := by
  unfold val_main_v15
  pointwise
  unfold joined
  split
  · rw [val_main_v13_apply]
    congr 1
    funext a
    fin_cases a <;> refine Fin.ext ?_ <;> simp [mapLane] <;> omega
  · rw [dif_pos (show k.val - 256 < 8192 by omega), val_main_v14_apply]
    congr 1
    funext a
    fin_cases a <;> refine Fin.ext ?_ <;> simp [mapLane] <;> omega

/-- The joined values, split by head. -/
theorem values_apply (b : Fin 2) (k : Fin 8448) (h : Fin 4) (j : Fin 128) :
    val_main_v18 (F := Ideal) x2 x4 (ix4 b k h j) = joined x2 x4 b (lane h j) k.val := by
  unfold val_main_v18
  pointwise
  unfold joined
  split
  · rw [val_main_v16_apply]
    congr 1
    funext a
    fin_cases a <;> refine Fin.ext ?_ <;> simp [lane] <;> omega
  · rw [dif_pos (show k.val - 256 < 8192 by omega), val_main_v17_apply]
    congr 1
    funext a
    fin_cases a <;> refine Fin.ext ?_ <;> simp [lane] <;> omega

/-- The reference's score of key `k` for row `n`, in map `p` of head `h`. -/
def refScore (x0 : FVec Ideal S2x8192x512 .f32) (x1 : FVec Ideal S2x256x512 .f32) (x3 : FVec Ideal S2x8192x512 .f32) (b : Fin 2) (h : Fin 4) (p : Fin 2)
    (n : Fin 8192) (k : ℕ) : EReal :=
  (∑ d : Fin 64, x0 (ix3 b n (mapLane h p d)) * joined x1 x3 b (mapLane h p d) k) * Ideal.ofBits .f32 0x3E000000#32

/-- The scores. -/
theorem score_apply (b : Fin 2) (h : Fin 4) (p : Fin 2) (n : Fin 8192) (k : Fin 8448) :
    val_main_v21 (F := Ideal) x0 x1 x3 (ix5 b h p n k) = refScore x0 x1 x3 b h p n k.val := by
  have hl : ∀ d, lidx_main_v19 (ix5 b h p n k) d = ix5 b n h p d := fun d => by funext a; fin_cases a <;> rfl
  have hr : ∀ d, ridx_main_v19 (ix5 b h p n k) d = ix5 b k h p d := fun d => by funext a; fin_cases a <;> rfl
  rw [val_main_v21_apply, val_main_v19_apply, val_main_v20_apply, val_main_cst_2_apply]
  refine congrArg₂ (fun a b : EReal => a * b) (Finset.sum_congr rfl fun d _ => ?_) rfl
  rw [hl, hr, queries_apply, keys_apply]

/-- The largest of a row's scores. -/
def refMax (x0 : FVec Ideal S2x8192x512 .f32) (x1 : FVec Ideal S2x256x512 .f32) (x3 : FVec Ideal S2x8192x512 .f32) (b : Fin 2) (h : Fin 4) (p : Fin 2)
    (n : Fin 8192) : EReal := (Finset.range 8448).sup (refScore x0 x1 x3 b h p n)

/-- A maximum over the keys, as a fold. -/
theorem host_max (X : FVec Ideal S2x4x2x8192x8448 .f32) (I : FVec Ideal S_ .f32) (hr hu) (b : Fin 2) (h : Fin 4) (p : Fin 2) (n : Fin 8192) :
    Host.reduce (axes := [4]) (t := S2x4x2x8192) FloatOps.maximumf X I hr hu (ix4 b h p n)
      = Finset.univ.fold max (I (Shape.Idx.first hu)) fun k : Fin 8448 => X (ix5 b h p n k) := by
  simp only [pointwise]

/-- The row's largest score. -/
theorem max_apply (b : Fin 2) (h : Fin 4) (p : Fin 2) (n : Fin 8192) :
    val_main_v24 (F := Ideal) x0 x1 x3 (ix4 b h p n) = refMax x0 x1 x3 b h p n := by
  have e : val_main_v22 (F := Ideal) x0 x1 x3 (ix4 b h p n) = refMax x0 x1 x3 b h p n := by
    unfold val_main_v22 refMax
    refine (host_max _ _ _ _ b h p n).trans ?_
    rw [val_main_cst_3_apply]
    refine (congrArg (Finset.fold max · _ _) Cert.KernelIdeal.Body.negInf_eq).trans (fold_max_fin _ _ _ fun k => score_apply x0 x1 x3 b h p n k)
  rw [val_main_v24_apply, e, val_main_v23_apply, val_main_cst_4_apply]
  exact (congrArg (max · _) Cert.KernelIdeal.Body.negInf_eq).trans (max_eq_right bot_le)

/-- The weight of key `k` before it is divided by the row's sum. -/
def refExp (x0 : FVec Ideal S2x8192x512 .f32) (x1 : FVec Ideal S2x256x512 .f32) (x3 : FVec Ideal S2x8192x512 .f32) (b : Fin 2) (h : Fin 4) (p : Fin 2)
    (n : Fin 8192) (k : ℕ) : EReal := Ideal.exp (refScore x0 x1 x3 b h p n k - refMax x0 x1 x3 b h p n)

/-- The exponentials of a row. -/
theorem exp_apply (b : Fin 2) (h : Fin 4) (p : Fin 2) (n : Fin 8192) (k : Fin 8448) :
    val_main_v28 (F := Ideal) x0 x1 x3 (ix5 b h p n k) = refExp x0 x1 x3 b h p n k.val := by
  have e : idx_main_v25 (idx_main_v26 (ix5 b h p n k)) = ix4 b h p n := by funext a; fin_cases a <;> rfl
  rw [val_main_v28_apply, val_main_v27_apply, val_main_v26_apply, val_main_v25_apply, e, max_apply, score_apply]
  rfl

/-- The sum of a row's exponentials. -/
theorem sum_apply (b : Fin 2) (h : Fin 4) (p : Fin 2) (n : Fin 8192) :
    val_main_v29 (F := Ideal) x0 x1 x3 (ix4 b h p n) = ∑ k : Fin 8448, refExp x0 x1 x3 b h p n k.val := by
  have e : ∀ k, idx_main_v29 (ix4 b h p n) k = ix5 b h p n k := fun k => by funext a; fin_cases a <;> rfl
  have z : FloatOps.ofBits (F := Ideal) .f32 0x00000000#32 = (0 : EReal) := by show Ideal.ofBits .f32 0x00000000#32 = 0; simp [Ideal.ofBits, Ideal.ieee]
  rw [val_main_v29_apply, val_main_cst_5_apply, z]
  refine (zero_add (_ : EReal)).trans (Finset.sum_congr rfl fun k _ => ?_)
  rw [e, exp_apply]

/-- The softmax weights. -/
theorem prob_apply (b : Fin 2) (h : Fin 4) (p : Fin 2) (n : Fin 8192) (k : Fin 8448) :
    val_main_v32 (F := Ideal) x0 x1 x3 (ix5 b h p n k) = Ideal.div (refExp x0 x1 x3 b h p n k.val) (∑ k : Fin 8448, refExp x0 x1 x3 b h p n k.val) := by
  have e : idx_main_v30 (idx_main_v31 (ix5 b h p n k)) = ix4 b h p n := by funext a; fin_cases a <;> rfl
  rw [val_main_v32_apply, val_main_v31_apply, val_main_v30_apply, e, sum_apply, exp_apply]
  rfl

/-- The weight of the second map. -/
theorem mix_apply (i : S_.Idx) : val_main_v11 (F := Ideal) x5 x6 x7 x8 i = mixOf x5 x6 x7 x8 := by
  unfold val_main_v11 val_main_v10 val_main_v9 val_main_v8 val_main_v7 val_main_v6 val_main_v5 val_main_v4 val_main_v3 val_main_v2 val_main_v1 val_main_v0
    val_main_cst val_main_cst_0 val_main_cst_1 mixOf
  pointwise

/-- The difference of the two maps. -/
theorem map_apply (b : Fin 2) (h : Fin 4) (n : Fin 8192) (k : Fin 8448) :
    val_main_v39 (F := Ideal) x0 x1 x3 x5 x6 x7 x8 (ix4 b h n k)
      = Ideal.div (refExp x0 x1 x3 b h 0 n k.val) (∑ k : Fin 8448, refExp x0 x1 x3 b h 0 n k.val)
        - mixOf x5 x6 x7 x8 * Ideal.div (refExp x0 x1 x3 b h 1 n k.val) (∑ k : Fin 8448, refExp x0 x1 x3 b h 1 n k.val) := by
  have e0 : idx_main_v33 (idx_main_v34 (ix4 b h n k)) = ix5 b h 0 n k := by
    funext a
    fin_cases a <;> refine Fin.ext ?_ <;> simp <;> omega
  have e1 : idx_main_v35 (idx_main_v36 (ix4 b h n k)) = ix5 b h 1 n k := by
    funext a
    fin_cases a <;> refine Fin.ext ?_ <;> simp <;> omega
  rw [val_main_v39_apply, val_main_v38_apply, val_main_v37_apply, val_main_v36_apply, val_main_v35_apply, val_main_v34_apply, val_main_v33_apply, e0, e1,
    prob_apply, prob_apply, mix_apply]
  rfl

/-- The difference of the two maps' outputs, as the reference computes it. -/
def refDiff (x0 : FVec Ideal S2x8192x512 .f32) (x1 x2 : FVec Ideal S2x256x512 .f32) (x3 x4 : FVec Ideal S2x8192x512 .f32) (lam : EReal)
    (b : Fin 2) (h : Fin 4) (n : Fin 8192) (j : Fin 128) : EReal :=
  ∑ k : Fin 8448, joined x2 x4 b (lane h j) k.val
    * (Ideal.div (refExp x0 x1 x3 b h 0 n k.val) (∑ k : Fin 8448, refExp x0 x1 x3 b h 0 n k.val)
        - lam * Ideal.div (refExp x0 x1 x3 b h 1 n k.val) (∑ k : Fin 8448, refExp x0 x1 x3 b h 1 n k.val))

/-- The weighted values. -/
theorem diff_apply (b : Fin 2) (h : Fin 4) (n : Fin 8192) (j : Fin 128) :
    val_main_v41 (F := Ideal) x0 x1 x2 x3 x4 x5 x6 x7 x8 (ix4 b n h j) = refDiff x0 x1 x2 x3 x4 (mixOf x5 x6 x7 x8) b h n j := by
  have e : idx_main_v41 (ix4 b n h j) = ix4 b h j n := by funext a; fin_cases a <;> rfl
  have hl : ∀ k, lidx_main_v40 (ix4 b h j n) k = ix4 b k h j := fun k => by funext a; fin_cases a <;> rfl
  have hr : ∀ k, ridx_main_v40 (ix4 b h j n) k = ix4 b h n k := fun k => by funext a; fin_cases a <;> rfl
  rw [val_main_v41_apply, e, val_main_v40_apply]
  refine Finset.sum_congr rfl fun k _ => ?_
  rw [hl, hr, values_apply, map_apply]

/-- The reference's mean of squares. -/
theorem square_apply (b : Fin 2) (h : Fin 4) (n : Fin 8192) :
    val_main_v44 (F := Ideal) x0 x1 x2 x3 x4 x5 x6 x7 x8 (ix3 b n h)
      = ∑ j : Fin 128, refDiff x0 x1 x2 x3 x4 (mixOf x5 x6 x7 x8) b h n j * refDiff x0 x1 x2 x3 x4 (mixOf x5 x6 x7 x8) b h n j := by
  have e : ∀ k, idx_main_v44 (ix3 b n h) k = ix4 b n h k := fun k => by funext a; fin_cases a <;> rfl
  have z : FloatOps.ofBits (F := Ideal) .f32 0x00000000#32 = (0 : EReal) := by show Ideal.ofBits .f32 0x00000000#32 = 0; simp [Ideal.ofBits, Ideal.ieee]
  rw [val_main_v44_apply, val_main_cst_6_apply, z]
  refine (zero_add (_ : EReal)).trans (Finset.sum_congr rfl fun k _ => ?_)
  rw [e, val_main_v43_apply, diff_apply]
  rfl

/-- The reference's first result, by head and lane. -/
theorem norm_apply (b : Fin 2) (h : Fin 4) (n : Fin 8192) (j : Fin 128) :
    val_main_v57 (F := Ideal) x0 x1 x2 x3 x4 x5 x6 x7 x8 x9 (ix4 b n h j)
      = normOf (refDiff x0 x1 x2 x3 x4 (mixOf x5 x6 x7 x8) b h n) (fun x => x9 (ix2 0 x)) j := by
  have e : idx_main_v45 (idx_main_v51 (ix4 b n h j)) = ix3 b n h := by funext a; fin_cases a <;> rfl
  have eg : idx_main_v42 (idx_main_v53 (idx_main_v54 (ix4 b n h j))) = ix2 0 j := by
    funext a
    fin_cases a <;> refine Fin.ext ?_ <;> simp
  rw [val_main_v57_apply, val_main_v56_apply, val_main_cst_9_apply, val_main_v55_apply, val_main_v54_apply, val_main_v53_apply, val_main_v42_apply, eg,
    val_main_v52_apply, val_main_v51_apply, val_main_v50_apply, val_main_v49_apply, val_main_v48_apply, val_main_cst_8_apply, val_main_v47_apply,
    val_main_v46_apply, val_main_cst_7_apply, val_main_v45_apply, e, square_apply, diff_apply]
  rfl

/-- The reference's first result. -/
theorem result_apply (i : S2x8192x512.Idx) :
    val_main_v60 (F := Ideal) x0 x1 x2 x3 x4 x5 x6 x7 x8 x9 i
      = normOf (refDiff x0 x1 x2 x3 x4 (mixOf x5 x6 x7 x8) (i 0) ⟨(i 2).val / 128, by have := (i 2).isLt; change _ < 512 at this; omega⟩ (i 1))
          (fun x => x9 (ix2 0 x)) ⟨(i 2).val % 128, by omega⟩ := by
  have e : idx_main_v59 i = ix4 (i 0) (i 1) ⟨(i 2).val / 128, by have := (i 2).isLt; change _ < 512 at this; omega⟩ ⟨(i 2).val % 128, by omega⟩ := by
    have h2 : (i 2).val < 512 := (i 2).isLt
    have h1 : (i 1).val < 8192 := (i 1).isLt
    funext a
    fin_cases a <;> refine Fin.ext ?_ <;> simp <;> omega
  rw [val_main_v60_apply, val_main_v59_apply, e]
  exact norm_apply ..

end Cert.ReferenceIdeal.Reads

end
-- ==== Proof.Equation.lean ====
/- The kernel's result is the reference's: the two softmaxes have proportional weights, and the normalised difference forgets the factor. -/
module

public import proofs.«01_k».proof.Proof.Reads

@[expose] public section

set_option maxRecDepth 16384

noncomputable section

namespace Cert.Equation

open Idealize.ShloMosaic Idealize.ShloMosaic.Pointwise
open Cert.KernelIdeal Cert.KernelIdeal.Array Cert.KernelIdeal.Entry Cert.KernelIdeal.Body Cert.Softmax Cert.ReferenceIdeal.Reads

/-- An eighth, the factor of the scores. -/
theorem eighth : Ideal.ofBits .f32 0x3E000000#32 = ((1 / 8 : ℝ) : EReal) := by
  simp [Ideal.ofBits, Ideal.ieee]
  rw [← EReal.coe_mul]
  congr 1
  norm_num

/-- The host's factor is an eighth over the logarithm of two. -/
theorem hostScale_eq : hostScale = ((1 / 8 / Real.log 2 : ℝ) : EReal) := by
  have e : Ideal.ofBits .f32 0x40000000#32 = ((2 : ℝ) : EReal) := by
    simp [Ideal.ofBits, Ideal.ieee]
    rw [← EReal.coe_mul]
    congr 1
    norm_num
  unfold hostScale
  rw [eighth, e, Ideal.log_coe, if_neg (by norm_num), div_coe_coe log_two_pos.ne']

/-- The floor is a real. -/
theorem floor_ne_top : floorWord ≠ ⊤ := by
  unfold floorWord
  simp [Ideal.ofBits, Ideal.ieee]
  exact_mod_cast EReal.coe_ne_bot (13234890 * 2 ^ 76)

variable (Q : FVec Ideal S2x8192x512 .f32) (KC VC : FVec Ideal S2x256x512 .f32) (KL VL : FVec Ideal S2x8192x512 .f32) (G : FVec Ideal S1x128 .f32)

/-- The reference's score is the kernel's, times the logarithm of two. -/
theorem score_scaled (b : Fin 2) (h : Fin 4) (p : Fin 2) (n : Fin 8192) (k : ℕ) :
    refScore Q KC KL b h p n k = kerScore Q KC KL b h p n k * ((Real.log 2 : ℝ) : EReal) := by
  have hl := log_two_pos
  have e : kerScore Q KC KL b h p n k
      = ((1 / 8 / Real.log 2 : ℝ) : EReal) * ∑ d : Fin 64, Q (ix3 b n (mapLane h p d)) * joined KC KL b (mapLane h p d) k := by
    unfold kerScore
    rw [mul_sum_of_nonneg _ _ (by exact_mod_cast (div_pos (by norm_num) hl).le) (EReal.coe_ne_top _), hostScale_eq]
    exact Finset.sum_congr rfl fun d _ => by rw [mul_comm (Q _ : EReal), mul_assoc]
  unfold refScore
  rw [e, eighth, mul_comm, mul_right_comm, ← EReal.coe_mul, div_mul_cancel₀ _ hl.ne']

/-- A supremum over a finite set that is plus infinity is attained. -/
theorem sup_top (s : ℕ → EReal) {n : ℕ} (h : (Finset.range n).sup s = ⊤) : ∃ k : Fin n, s k.val = ⊤ := by
  rcases Finset.eq_empty_or_nonempty (Finset.range n) with e | e
  · rw [e] at h
    exact absurd h (by simp)
  · obtain ⟨k, hk, hs⟩ := Finset.exists_mem_eq_sup _ e s
    exact ⟨⟨k, Finset.mem_range.mp hk⟩, hs.symm.trans h⟩

/-- The weights of one map: real and nonnegative, and the reference's a positive multiple of the kernel's. -/
theorem weights (b : Fin 2) (h : Fin 4) (p : Fin 2) (n : Fin 8192) : ∃ r γ, Weights
    (fun k : Fin 8448 => Ideal.exp2 (kerScore Q KC KL b h p n k.val - runMax floorWord (kerScore Q KC KL b h p n) 8448))
    (fun k : Fin 8448 => refExp Q KC KL b h p n k.val) r γ := by
  have hm : ∀ k : Fin 8448, kerScore Q KC KL b h p n k.val ≤ runMax floorWord (kerScore Q KC KL b h p n) 8448 := fun k => le_runMax _ _ k.isLt
  have hb := runMax_ne_bot floor_ne_bot (kerScore Q KC KL b h p n) 8448
  obtain ⟨γ, hγ, hp⟩ := weights_proportional (fun k : Fin 8448 => kerScore Q KC KL b h p n k.val) (fun k : Fin 8448 => refScore Q KC KL b h p n k.val)
    (runMax floorWord (kerScore Q KC KL b h p n) 8448) (refMax Q KC KL b h p n) (fun k => score_scaled Q KC KL b h p n k.val) hm hb
    (fun e => sup_top _ ((max_eq_top.mp e).resolve_left floor_ne_top))
    (fun k => Finset.le_sup (f := refScore Q KC KL b h p n) (Finset.mem_range.mpr k.isLt)) (fun e => sup_top _ e)
  choose r hr using fun k => weight_real (hm k) hb
  exact ⟨r, γ, fun k => (hr k).1, fun k => (hr k).2, hγ, hp⟩

/-- The kernel's result at a row and a lane is the reference's, where the values and the weight of the second map are reals. -/
theorem kerOut_eq {lam : EReal} (hlam : ∃ a : ℝ, lam = (a : EReal)) (b : Fin 2) (h : Fin 4) (n : Fin 8192) (j : Fin 128)
    (hv : ∀ (x : Fin 128) (k : Fin 8448), ∃ a : ℝ, joined VC VL b (lane h x) k.val = (a : EReal)) :
    kerOut Q KC VC KL VL lam G b n h j = normOf (refDiff Q KC VC KL VL lam b h n) (fun x => G (ix2 0 x)) j := by
  obtain ⟨a, rfl⟩ := hlam
  choose v hv using hv
  obtain ⟨r0, γ0, w0⟩ := weights Q KC KL b h 0 n
  obtain ⟨r1, γ1, w1⟩ := weights Q KC KL b h 1 n
  have en : Ideal.ofBits .f32 0x43000000#32 = ((128 : ℝ) : EReal) := by
    simp [Ideal.ofBits, Ideal.ieee]
    rw [← EReal.coe_mul]
    congr 1
    norm_num
  have ee : ∃ ε : ℝ, Ideal.ofBits .f32 0x358637BD#32 = (ε : EReal) := by
    simp [Ideal.ofBits, Ideal.ieee]
    exact ⟨_, (EReal.coe_mul _ _).symm⟩
  obtain ⟨ε, ee⟩ := ee
  unfold kerOut normOf
  rw [en, ee]
  refine congrArg (· * G (ix2 0 j) * Ideal.ofBits .f32 0x3F4CCCCD#32) ?_
  refine difference_rms w0 w1 a v (by norm_num) _ _ (fun l => ?_) (fun l => ?_) j
  · unfold diffOf
    rw [sum_runLane, sum_runLane]
    unfold runAcc
    dsimp only
    rw [show 128 * 66 = 8448 from rfl]
    simp only [Finset.sum_range]
    simp only [← hv]
  · unfold refDiff
    simp only [← hv]

end Cert.Equation

end
-- ==== Proof.Finite.lean ====
/- What the precondition says: the values are reals, and so is the weight of the second map. -/
module

public import proofs.«01_k».proof.Pre_finite_values
public import proofs.«01_k».proof.Proof.Array
public import Idealize.ShloMosaic.Lib.ReduceAll

@[expose] public section

set_option maxRecDepth 16384

noncomputable section

namespace Cert.Finite

open Cert.Pre_finite_values Idealize.ShloMosaic Idealize.ShloMosaic.Pointwise
open Cert.KernelIdeal.Array Cert.KernelIdeal.Entry

/-- The shape relations of the precondition's operations. -/
instance facts : Cert.Pre_finite_values.Facts where
  shapeCasts_S1x64_S64 := by decide
  reducesTo_S64_S_d0 := by decide
  h_S_ := by decide
  bcast_S_S2x256x512 := by decide
  reducesTo_S2x256x512_S_d0_1_2 := by decide
  bcast_S_S2x8192x512 := by decide
  reducesTo_S2x8192x512_S_d0_1_2 := by decide

/-- A number whose absolute value compares below plus infinity is a real. -/
theorem real_of_test (a : EReal) (h : Ideal.cmp .olt (FloatOps.absf (F := Ideal) (φ := .f32) a) (Ideal.ofBits .f32 0x7F800000#32) = 1#1) : ∃ r : ℝ, a = (r : EReal) := by
  have e : Ideal.ofBits .f32 0x7F800000#32 = ⊤ := by simp [Ideal.ofBits, Ideal.ieee]
  rw [e] at h
  induction a with
  | bot =>
    have h : Ideal.cmp .olt (max (⊥ : EReal) (-⊥)) ⊤ = 1#1 := h
    simp [Ideal.cmp] at h
  | top =>
    have h : Ideal.cmp .olt (max (⊤ : EReal) (-⊤)) ⊤ = 1#1 := h
    simp [Ideal.cmp] at h
  | coe r => exact ⟨r, rfl⟩

/-- THE PRECONDITION READ: every value is a real, and the weight of the second map is one. -/
theorem finite (x0 : FVec Ideal S2x8192x512 .f32) (x1 x2 : FVec Ideal S2x256x512 .f32) (x3 x4 : FVec Ideal S2x8192x512 .f32)
    (x5 x6 x7 x8 : FVec Ideal S1x64 .f32) (x9 : FVec Ideal S1x128 .f32) (h : fn (F := Ideal) x0 x1 x2 x3 x4 x5 x6 x7 x8 x9 = fun _ => 1#1) :
    (∀ i, ∃ r : ℝ, x2 i = (r : EReal)) ∧ (∀ i, ∃ r : ℝ, x4 i = (r : EReal)) ∧ ∃ r : ℝ, mixOf x5 x6 x7 x8 = (r : EReal) := by
  have e := congrFun h (fun a => a.elim0)
  unfold fn fn_part1 at e
  dsimp only [andi] at e
  obtain ⟨e, hm⟩ := IntOp.andi_eq_one.1 e
  obtain ⟨h2, h4⟩ := IntOp.andi_eq_one.1 e
  have : Subsingleton S_.Idx := ⟨fun a b => funext fun i => i.elim0⟩
  refine ⟨fun i => real_of_test _ (Host.reduce_andi_all _ _ _ _ _ h2 i), fun i => real_of_test _ (Host.reduce_andi_all _ _ _ _ _ h4 i), real_of_test _ ?_⟩
  refine Eq.trans ?_ hm
  unfold mixOf
  pointwise

end Cert.Finite

end
-- ==== Proof.Norm.lean ====
/- A row's root-mean-square normalisation with a gain, then scaled and shifted: the input of every projection. -/
module

public import Idealize.ShloMosaic.Lib.Pointwise
public import Idealize.ShloMosaic.PureOps.Ideal.Laws

@[expose] public section

noncomputable section

namespace Cert.Norm

open Idealize.ShloMosaic

/-- Entry `d` of the row `x`, normalised with gain `g`, scaled by one plus `sc` and shifted by `sh`. -/
def modRow (x g sc sh : Fin 1024 → EReal) (d : Fin 1024) : EReal :=
  x d * Ideal.rsqrt (Ideal.div (∑ j, x j * x j) (Ideal.ofBits .f32 0x44800000#32) + Ideal.ofBits .f32 0x358637BD#32) * g d
    * (Ideal.ofBits .f32 0x3F800000#32 + sc d) + sh d

/-- The product of such a row with a column of weights. -/
def proj (x g sc sh w : Fin 1024 → EReal) : EReal := ∑ d, modRow x g sc sh d * w d

end Cert.Norm

end
-- ==== Proof.Context.lean ====
/- The context's keys and values: the kernel's two result arrays and the reference's two results as the same function of the arguments. -/
module

public import proofs.«01_k».proof.Proof.Norm
public import proofs.«01_k».proof.Proof.Gen.Kernel3Ideal.Value
public import proofs.«01_k».proof.Proof.Gen.Reference3Ideal.Read
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.Pointwise

namespace Cert.Context

open Cert.Norm

/-- Column `l` of the context's projection at row `n` of batch `b`, as a function of the arguments. -/
def ctxProj (X : FVec Ideal Cert.Kernel3Ideal.S2x256x1024 .f32) (M : FVec Ideal Cert.Kernel3Ideal.S8x6x1024 .f32)
    (G : FVec Ideal Cert.Kernel3Ideal.S1x1024 .f32) (W : FVec Ideal Cert.Kernel3Ideal.S1x1024x2048 .f32) (b : Fin 2) (n : Fin 256) (l : Fin 2048) : EReal :=
  proj (fun d => X (ix3 b n d)) (fun d => G (ix2 0 d)) (fun d => M (ix3 2 1 d)) (fun d => M (ix3 2 0 d)) (fun d => W (ix3 0 d l))

section Kernel

open Cert.Kernel3Ideal Cert.Kernel3Ideal.Gen Idealize.ShloMosaic.TcCoe Idealize.SL.Sem

/-- Every window's block index at a grid point. -/
theorem idx : ∀ t : Fin cfg0.N, win0_4.index t 0 < 2 ∧ win0_4.index t 1 = 0 ∧ win0_4.index t 2 = 0 ∧ win0_5.index t = ![win0_4.index t 0, 0, 0]
    ∧ win0_0.index t = ![win0_4.index t 0, 0, 0] ∧ win0_1.index t = ![2, 0, 0] ∧ win0_2.index t = ![0, 0] ∧ win0_3.index t = ![0, 0] :=
  (by decide +kernel : ∀ t : Fin grid0.N, _)

/-- The batch of a grid point. -/
def batchOf (t : Fin cfg0.N) : Fin 2 := ⟨win0_4.index t 0, (idx t).1⟩

/-- The normalised rows of a block. -/
theorem pay2_apply (v0 : Vec Ideal S1x6x1024 .f32) (v2 : Vec Ideal S1x256x1024 .f32) (v4 : Vec Ideal S1x1024 .f32) (r : Fin 256) (d : Fin 1024) :
    k0_pay2 v0 v2 v4 (ix2 r d)
      = modRow (fun d => v2 (ix3 0 r d)) (fun d => v4 (ix2 0 d)) (fun d => v0 (ix3 0 1 d)) (fun d => v0 (ix3 0 0 d)) d := by
  unfold modRow
  pointwise [k0_pay2]

/-- The block of keys, from the loads. -/
theorem pay3_apply (v0 : Vec Ideal S1x6x1024 .f32) (v2 : Vec Ideal S1x256x1024 .f32) (v4 : Vec Ideal S1x1024 .f32) (v27 : Vec Ideal S1024x512 .bf16)
    (r : Fin 256) (l : Fin 512) :
    k0_pay3 v0 v2 v4 v27 (ix3 0 r l) = (∑ d : Fin 1024, k0_pay2 v0 v2 v4 (ix2 r d) * v27 (ix2 d l) : EReal) := by
  pointwise [k0_pay3]

/-- The block of values, from the loads. -/
theorem pay1_apply (v0 : Vec Ideal S1x6x1024 .f32) (v2 : Vec Ideal S1x256x1024 .f32) (v4 : Vec Ideal S1x1024 .f32) (v34 : Vec Ideal S1024x512 .bf16)
    (r : Fin 256) (l : Fin 512) :
    k0_pay1 (k0_pay4 v0 v2 v4 v34) (ix3 0 r l) = (∑ d : Fin 1024, k0_pay2 v0 v2 v4 (ix2 r d) * v34 (ix2 d l) : EReal) := by
  pointwise [k0_pay1, k0_pay4]

/-- A load of the weights' columns 512 to 1023. -/
theorem ld_keys (w : Vec Ideal S1024x2048 .bf16) (d : Fin 1024) (l : Fin 512) : View.ld w r0_3 (ix2 d l) = w (ix2 d ⟨512 + l.val, by omega⟩) :=
  congrArg w (funext fun a => Fin.ext (by
    fin_cases a
    · show 0 + 1 * d.val = d.val; omega
    · show 512 + 1 * l.val = 512 + l.val; omega))

/-- A load of the weights' columns 1024 to 1535. -/
theorem ld_values (w : Vec Ideal S1024x2048 .bf16) (d : Fin 1024) (l : Fin 512) : View.ld w r0_5 (ix2 d l) = w (ix2 d ⟨1024 + l.val, by omega⟩) :=
  congrArg w (funext fun a => Fin.ext (by
    fin_cases a
    · show 0 + 1 * d.val = d.val; omega
    · show 1024 + 1 * l.val = 1024 + l.val; omega))

/-- A block of keys, from the input blocks. -/
theorem out4_apply (x0 : Vec Ideal S1x256x1024 .f32) (x1 : Vec Ideal S1x6x1024 .f32) (x2 : Vec Ideal S1x1024 .f32) (x3 : Vec Ideal S1024x2048 .bf16)
    (r : Fin 256) (l : Fin 512) :
    out0_4 x0 x1 x2 x3 (ix3 0 r l) = proj (fun d => x0 (ix3 0 r d)) (fun d => x2 (ix2 0 d)) (fun d => x1 (ix3 0 1 d)) (fun d => x1 (ix3 0 0 d))
      (fun d => x3 (ix2 d ⟨512 + l.val, by omega⟩)) := by
  frame_out
  rw [pay3_apply]
  exact Finset.sum_congr rfl fun d _ => congrArg₂ (fun a b : EReal => a * b) (pay2_apply x1 x0 x2 r d) (ld_keys x3 d l)

/-- A block of values, from the input blocks. -/
theorem out5_apply (x0 : Vec Ideal S1x256x1024 .f32) (x1 : Vec Ideal S1x6x1024 .f32) (x2 : Vec Ideal S1x1024 .f32) (x3 : Vec Ideal S1024x2048 .bf16)
    (r : Fin 256) (l : Fin 512) :
    out0_5 x0 x1 x2 x3 (ix3 0 r l) = proj (fun d => x0 (ix3 0 r d)) (fun d => x2 (ix2 0 d)) (fun d => x1 (ix3 0 1 d)) (fun d => x1 (ix3 0 0 d))
      (fun d => x3 (ix2 d ⟨1024 + l.val, by omega⟩)) := by
  frame_out
  rw [pay1_apply]
  exact Finset.sum_congr rfl fun d _ => congrArg₂ (fun a b : EReal => a * b) (pay2_apply x1 x0 x2 r d) (ld_values x3 d l)

variable (m : (ℓ : Loc nD τ sig) → Buf (Elt Ideal) ℓ)

/-- The context, an argument. -/
def rows (c : Dev nD) : FVec Ideal S2x256x1024 .f32 := m ((c : Thread nD τ).loc main_arg0)
/-- The modulation vectors, an argument. -/
def mods (c : Dev nD) : FVec Ideal S8x6x1024 .f32 := m ((c : Thread nD τ).loc main_arg1)
/-- The gain, an argument. -/
def gain (c : Dev nD) : FVec Ideal S1x1024 .f32 := m ((c : Thread nD τ).loc main_arg2)
/-- The weights, an argument. -/
def weights (c : Dev nD) : FVec Ideal S1x1024x2048 .f32 := m ((c : Thread nD τ).loc main_arg3)

/-- The gain as the launch finds it. -/
theorem entry_g (c : Dev nD) (d : Fin 1024) : V m c main_v1 (ix2 0 d) = gain m c (ix2 0 d) := by
  unfold gain
  entry_read
  pointwise

/-- The weights as the launch finds them, a change of format. -/
theorem entry_w (c : Dev nD) (d : Fin 1024) (l : Fin 2048) : V m c main_v3 (ix2 d l) = weights m c (ix3 0 d l) := by
  unfold weights
  entry_read
  pointwise

/-- A block of the context. -/
theorem block_x (c : Dev nD) (t : Fin cfg0.N) (r : Fin 256) (d : Fin 1024) : iblk m c 0 t (ix3 0 r d) = rows m c (ix3 (batchOf t) r d) := by
  unfold rows
  blk_ext! [iblk, idx t, batchOf]

/-- The block of modulation vectors. -/
theorem block_m (c : Dev nD) (t : Fin cfg0.N) (a : Fin 6) (d : Fin 1024) : iblk m c 1 t (ix3 0 a d) = mods m c (ix3 2 a d) := by
  unfold mods
  blk_ext! [iblk, idx t]

/-- The block of the gain. -/
theorem block_g (c : Dev nD) (t : Fin cfg0.N) (d : Fin 1024) : iblk m c 2 t (ix2 0 d) = gain m c (ix2 0 d) := by
  refine Eq.trans ?_ (entry_g m c d)
  blk_ext! [iblk, idx t]

/-- The block of the weights. -/
theorem block_w (c : Dev nD) (t : Fin cfg0.N) (d : Fin 1024) (l : Fin 2048) : iblk m c 3 t (ix2 d l) = weights m c (ix3 0 d l) := by
  refine Eq.trans ?_ (entry_w m c d l)
  blk_ext! [iblk, idx t]

/-- A block's row of the projection. -/
theorem proj_block (c : Dev nD) (t : Fin cfg0.N) (r : Fin 256) (l : Fin 2048) :
    proj (fun d => iblk m c 0 t (ix3 0 r d)) (fun d => iblk m c 2 t (ix2 0 d)) (fun d => iblk m c 1 t (ix3 0 1 d)) (fun d => iblk m c 1 t (ix3 0 0 d))
      (fun d => iblk m c 3 t (ix2 d l)) = ctxProj (rows m c) (mods m c) (gain m c) (weights m c) (batchOf t) r l := by
  unfold ctxProj
  simp only [block_x, block_m, block_g, block_w]

/-- The kernel's array of keys. -/
theorem final4 (c : Dev nD) : (dats m 0 c).arrAt 4 cfg0.N = fun i =>
    ctxProj (rows m c) (mods m c) (gain m c) (weights m c) (i 0) (i 1) ⟨512 + (i 2).val, by have := (i 2).isLt; change _ < 512 at this; omega⟩ := by
  refine (dats m 0 c).arrAt_eq_of_covers 4 _ (by decide +kernel) fun t hf y => ?_
  blk_simp
  rw [after0_4]
  have h1 : (y 1).val < 256 := (y 1).isLt
  have h2 : (y 2).val < 512 := (y 2).isLt
  have hy : y = ix3 0 ⟨(y 1).val, h1⟩ ⟨(y 2).val, h2⟩ := by
    funext a
    fin_cases a
    · exact Fin.ext (by have : (y 0).val < 1 := (y 0).isLt; show (y 0).val = 0; omega)
    · rfl
    · rfl
  refine (congrArg (out0_4 _ _ _ _) hy).trans ((out4_apply _ _ _ _ _ _).trans ((proj_block m c t _ _).trans ?_))
  have e0 : batchOf t = (win0_4.blk t).view.emb y 0 := Fin.ext (by blk_simp [batchOf])
  have e1 : (⟨(y 1).val, h1⟩ : Fin 256) = (win0_4.blk t).view.emb y 1 := Fin.ext (by blk_simp [idx t])
  rw [e0, e1]
  congr 1
  exact Fin.ext (by blk_simp [idx t])

/-- The kernel's array of values. -/
theorem final5 (c : Dev nD) : (dats m 0 c).arrAt 5 cfg0.N = fun i =>
    ctxProj (rows m c) (mods m c) (gain m c) (weights m c) (i 0) (i 1) ⟨1024 + (i 2).val, by have := (i 2).isLt; change _ < 512 at this; omega⟩ := by
  refine (dats m 0 c).arrAt_eq_of_covers 5 _ (by decide +kernel) fun t hf y => ?_
  blk_simp
  rw [after0_5]
  have h1 : (y 1).val < 256 := (y 1).isLt
  have h2 : (y 2).val < 512 := (y 2).isLt
  have hy : y = ix3 0 ⟨(y 1).val, h1⟩ ⟨(y 2).val, h2⟩ := by
    funext a
    fin_cases a
    · exact Fin.ext (by have : (y 0).val < 1 := (y 0).isLt; show (y 0).val = 0; omega)
    · rfl
    · rfl
  refine (congrArg (out0_5 _ _ _ _) hy).trans ((out5_apply _ _ _ _ _ _).trans ((proj_block m c t _ _).trans ?_))
  have e0 : batchOf t = (win0_5.blk t).view.emb y 0 := Fin.ext (by blk_simp [batchOf, idx t])
  have e1 : (⟨(y 1).val, h1⟩ : Fin 256) = (win0_5.blk t).view.emb y 1 := Fin.ext (by blk_simp [idx t])
  rw [e0, e1]
  congr 1
  exact Fin.ext (by blk_simp [idx t])

end Kernel

section Reference

open Cert.Reference3Ideal Cert.Reference3Ideal.Read

variable (x0 : FVec Ideal S2x256x1024 .f32) (x1 : FVec Ideal S8x6x1024 .f32) (x2 : FVec Ideal S1x1024 .f32) (x3 : FVec Ideal S1x1024x2048 .f32)

/-- The normalised context. -/
theorem modulated_apply (b : Fin 2) (n : Fin 256) (d : Fin 1024) :
    val_main_v25 (F := Ideal) x0 x1 x2 (ix3 b n d)
      = modRow (fun d => x0 (ix3 b n d)) (fun d => x2 (ix2 0 d)) (fun d => x1 (ix3 2 1 d)) (fun d => x1 (ix3 2 0 d)) d := by
  unfold modRow
  pointwise [val_main_v25, val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2]

/-- The projection's column `l` past the first 512, a dot product. -/
theorem dot_apply (b : Fin 2) (n : Fin 256) (l : Fin 1024) :
    val_main_v28 (F := Ideal) x0 x1 x2 x3 (ix3 b n l) = ctxProj x0 x1 x2 x3 b n ⟨512 + l.val, by omega⟩ := by
  have hl : ∀ d, lidx_main_v28 (ix3 b n l) d = ix3 b n d := fun d => by funext a; fin_cases a <;> rfl
  have hr : ∀ d, ridx_main_v28 (ix3 b n l) d = ix2 d l := fun d => by funext a; fin_cases a <;> rfl
  have hw : ∀ d : Fin 1024, val_main_v27 (F := Ideal) x3 (ix2 d l) = x3 (ix3 0 d ⟨512 + l.val, by omega⟩) := fun d => by
    pointwise [val_main_v27, val_main_v26]
  rw [val_main_v28_apply]
  simp only [hl, hr, modulated_apply, hw]
  rfl

/-- The reference's keys. -/
theorem keys_apply (i : S2x256x512.Idx) :
    val_main_v30 (F := Ideal) x0 x1 x2 x3 i = ctxProj x0 x1 x2 x3 (i 0) (i 1) ⟨512 + (i 2).val, by have := (i 2).isLt; change _ < 512 at this; omega⟩ := by
  rw [val_main_v30_apply, val_main_v29_apply]
  have e : idx_main_v29 i = ix3 (i 0) (i 1) ⟨(i 2).val, by have := (i 2).isLt; change _ < 512 at this; omega⟩ := by
    funext a
    fin_cases a <;> refine Fin.ext ?_ <;> simp
  exact (congrArg (val_main_v28 (F := Ideal) x0 x1 x2 x3) e).trans (dot_apply x0 x1 x2 x3 _ _ _)

/-- The reference's values. -/
theorem values_apply (i : S2x256x512.Idx) :
    val_main_v32 (F := Ideal) x0 x1 x2 x3 i = ctxProj x0 x1 x2 x3 (i 0) (i 1) ⟨1024 + (i 2).val, by have := (i 2).isLt; change _ < 512 at this; omega⟩ := by
  rw [val_main_v32_apply, val_main_v31_apply]
  have e : idx_main_v31 i = ix3 (i 0) (i 1) ⟨512 + (i 2).val, by have := (i 2).isLt; change _ < 512 at this; omega⟩ := by
    funext a
    fin_cases a <;> refine Fin.ext ?_ <;> simp
  refine (congrArg (val_main_v28 (F := Ideal) x0 x1 x2 x3) e).trans ((dot_apply x0 x1 x2 x3 _ _ _).trans ?_)
  exact congrArg (ctxProj x0 x1 x2 x3 (i 0) (i 1)) (Fin.ext (by show 512 + (512 + (i 2).val) = 1024 + (i 2).val; omega))

end Reference

end Cert.Context

end
-- ==== Proof.Conditions.lean ====
/- The modulation vectors: the kernel's result array and the reference's result as the same function of the arguments. -/
module

public import proofs.«01_k».proof.Proof.Gen.Kernel4Ideal.Value
public import proofs.«01_k».proof.Proof.Gen.Reference4Ideal.Read
public import Idealize.ShloMosaic.Lib.Pipeline.ValueKit
public import Idealize.ShloMosaic.Lib.Pointwise
public import Idealize.ShloMosaic.Lib.IdealHost
public import Idealize.ShloMosaic.Lib.Pipeline.CanonAppend
public import Idealize.ShloMosaic.Lib.StableHlo.RunRead

@[expose] public section

set_option maxRecDepth 16384

noncomputable section

open Idealize.ShloMosaic Idealize.ShloMosaic.Pointwise

namespace Cert.Conditions

/-- The gate of a condition's entry. -/
def gate (x : EReal) : EReal := x * Ideal.logistic x

/-- Entry `d` of condition `r`: a batch's for the first two, the context's after. -/
def cond (C : FVec Ideal Cert.Kernel4Ideal.S2x1024 .f32) (X : FVec Ideal Cert.Kernel4Ideal.S1024 .f32) (r : Nat) (d : Fin 1024) : EReal :=
  if h : r < 2 then C (ix2 ⟨r, h⟩ d) else X (ix1 d)

/-- Row `r`, column `l` of the modulation vectors: zero past the three conditions. -/
def modVec (C : FVec Ideal Cert.Kernel4Ideal.S2x1024 .f32) (X : FVec Ideal Cert.Kernel4Ideal.S1024 .f32)
    (W : FVec Ideal Cert.Kernel4Ideal.S1x1024x6144 .f32) (B : FVec Ideal Cert.Kernel4Ideal.S1x6144 .f32) (r : Nat) (l : Fin 6144) : EReal :=
  if r < 3 then (∑ d : Fin 1024, gate (cond C X r d) * W (ix3 0 d l)) + B (ix2 0 l) else 0

section Kernel

open Cert.Kernel4Ideal Cert.Kernel4Ideal.Gen Idealize.ShloMosaic.TcCoe Idealize.SL.Sem

/-- The gated conditions, from the load. -/
theorem pay1_apply (v0 : Vec Ideal S1024x8 .f32) (d : Fin 1024) (r : Fin 8) : k0_pay1 v0 (ix2 d r) = gate (v0 (ix2 d r)) := by
  unfold gate
  pointwise [k0_pay1]

/-- The first row's store. -/
theorem pay4_apply (v0 : Vec Ideal S1024x8 .f32) (v4 : Vec Ideal S1024x1536 .f32) (v13 : Vec Ideal S1x1536 .f32) (l : Fin 1536) :
    k0_pay4 v0 v4 v13 (ix2 0 l) = (∑ d : Fin 1024, gate (v0 (ix2 d 0)) * v4 (ix2 d l) : EReal) + v13 (ix2 0 l) := by
  have h : k0_pay4 v0 v4 v13 (ix2 0 l) = (∑ d : Fin 1024, v4 (ix2 d l) * k0_pay1 v0 (ix2 d 0) : EReal) + v13 (ix2 0 l) := by
    pointwise [k0_pay4, k0_pay2]
  rw [h]
  exact congrArg (fun z : EReal => z + v13 (ix2 0 l)) (Finset.sum_congr rfl fun d _ => (mul_comm _ _).trans (congrArg (fun z : EReal => z * v4 (ix2 d l)) (pay1_apply v0 d 0)))

/-- The second row's store. -/
theorem pay5_apply (v0 : Vec Ideal S1024x8 .f32) (v4 : Vec Ideal S1024x1536 .f32) (v13 : Vec Ideal S1x1536 .f32) (l : Fin 1536) :
    k0_pay5 v0 v4 v13 (ix2 0 l) = (∑ d : Fin 1024, gate (v0 (ix2 d 1)) * v4 (ix2 d l) : EReal) + v13 (ix2 0 l) := by
  have h : k0_pay5 v0 v4 v13 (ix2 0 l) = (∑ d : Fin 1024, v4 (ix2 d l) * k0_pay1 v0 (ix2 d 1) : EReal) + v13 (ix2 0 l) := by
    pointwise [k0_pay5, k0_pay2]
  rw [h]
  exact congrArg (fun z : EReal => z + v13 (ix2 0 l)) (Finset.sum_congr rfl fun d _ => (mul_comm _ _).trans (congrArg (fun z : EReal => z * v4 (ix2 d l)) (pay1_apply v0 d 1)))

/-- The third row's store. -/
theorem pay6_apply (v0 : Vec Ideal S1024x8 .f32) (v4 : Vec Ideal S1024x1536 .f32) (v13 : Vec Ideal S1x1536 .f32) (l : Fin 1536) :
    k0_pay6 v0 v4 v13 (ix2 0 l) = (∑ d : Fin 1024, gate (v0 (ix2 d 2)) * v4 (ix2 d l) : EReal) + v13 (ix2 0 l) := by
  have h : k0_pay6 v0 v4 v13 (ix2 0 l) = (∑ d : Fin 1024, v4 (ix2 d l) * k0_pay1 v0 (ix2 d 2) : EReal) + v13 (ix2 0 l) := by
    pointwise [k0_pay6, k0_pay2]
  rw [h]
  exact congrArg (fun z : EReal => z + v13 (ix2 0 l)) (Finset.sum_congr rfl fun d _ => (mul_comm _ _).trans (congrArg (fun z : EReal => z * v4 (ix2 d l)) (pay1_apply v0 d 2)))

/-- The zeros. -/
theorem pay3_apply (y : S8x1536.Idx) : k0_pay3 (F := Ideal) y = (0 : EReal) := by
  pointwise [k0_pay3]

/-- A block of the result at row `r`, from the input blocks. -/
def blockRow (x0 : Vec Ideal S1024x8 .f32) (x1 : Vec Ideal S1024x1536 .f32) (x2 : Vec Ideal S1x1536 .f32) (r : Fin 8) (l : Fin 1536) : EReal :=
  if r.val < 3 then (∑ d : Fin 1024, gate (x0 (ix2 d r)) * x1 (ix2 d l)) + x2 (ix2 0 l) else 0

/-- What the body leaves in the result's block. -/
theorem out3_apply (c : Dev nD) (i : grid0.Coords) (arg1 : Memref sig .tc .vmem S1024x8 .f32) (harg1 : arg1.IsWhole) (arg2 : Memref sig .tc .vmem S1024x1536 .f32) (harg2 : arg2.IsWhole) (arg3 : Memref sig .tc .vmem S1x1536 .f32) (harg3 : arg3.IsWhole) (arg4 : Memref sig .tc .vmem S8x1536 .f32) (harg4 : arg4.IsWhole)
    (x0 : Vec Ideal S1024x8 .f32) (x1 : Vec Ideal S1024x1536 .f32) (x2 : Vec Ideal S1x1536 .f32) (r : Fin 8) (l : Fin 1536) :
    out0_A_3 c i arg1 harg1 arg2 harg2 arg3 harg3 arg4 harg4 x0 x1 x2 (ix2 r l) = blockRow x0 x1 x2 r l := by
  frame_out
  have hrow : ∀ x : S1x1536.Idx, x = ix2 0 (x 1) := fun x => by
    funext a
    fin_cases a
    · exact Fin.ext (by have : (x 0).val < 1 := (x 0).isLt; show (x 0).val = 0; omega)
    · rfl
  have hat : ∀ (k : Fin 8) (hk : k.val < 3) (x : S1x1536.Idx) (y : S8x1536.Idx), (y 0).val = k.val + 1 * (x 0).val → (y 1).val = 0 + 1 * (x 1).val →
      ((∑ d : Fin 1024, gate (x0 (ix2 d k)) * x1 (ix2 d (x 1))) + x2 (ix2 0 (x 1)) : EReal) = blockRow x0 x1 x2 (y 0) (y 1) := fun k hk x y h0 h1 => by
    have hx : (x 0).val < 1 := (x 0).isLt
    have e0 : y 0 = k := Fin.ext (by omega)
    have e1 : y 1 = x 1 := Fin.ext (by omega)
    rw [e0, e1]
    unfold blockRow
    rw [if_pos hk]
  have hm : ∀ (k : ℕ) (inb : ∀ a, (![k, 0] : Fin 2 → ℕ) a + (![1, 1536] : Fin 2 → ℕ) a ≤ S8x1536.size a),
      (ix2 r l : S8x1536.Idx) ∈ (Rect.unit (s := S8x1536) ![k, 0] ![1, 1536] inb).set ↔ r.val = k := fun k inb => by
    rw [Rect.mem_set_unit]
    constructor
    · intro hh
      have h1 : k ≤ r.val ∧ r.val < k + 1 := hh 0
      omega
    · intro hk a
      fin_cases a
      · show k ≤ r.val ∧ r.val < k + 1
        omega
      · show 0 ≤ l.val ∧ l.val < 0 + 1536
        omega
  by_cases h : r.val < 3
  · refine View.canon_append_of_pieces (Val := Elt Ideal) (e := .f32) (fun y => blockRow x0 x1 x2 (y 0) (y 1)) [_] [_, _, _] ?_ (ix2 r l) ?_
    · intro p hp
      simp only [List.mem_cons, List.not_mem_nil, or_false] at hp
      rcases hp with rfl | rfl | rfl
      · exact fun x => (congrArg (k0_pay6 x0 x1 x2) (hrow x)).trans ((pay6_apply x0 x1 x2 (x 1)).trans (hat 2 (by decide) x _ rfl rfl))
      · exact fun x => (congrArg (k0_pay5 x0 x1 x2) (hrow x)).trans ((pay5_apply x0 x1 x2 (x 1)).trans (hat 1 (by decide) x _ rfl rfl))
      · exact fun x => (congrArg (k0_pay4 x0 x1 x2) (hrow x)).trans ((pay4_apply x0 x1 x2 (x 1)).trans (hat 0 (by decide) x _ rfl rfl))
    · have hr : r.val = 2 ∨ r.val = 1 ∨ r.val = 0 := by omega
      rcases hr with hr | hr | hr
      · exact ⟨_, List.mem_cons_self, (hm 2 inb_S8x1536_S1x1536_2_0).mpr hr⟩
      · exact ⟨_, List.mem_cons_of_mem _ List.mem_cons_self, (hm 1 inb_S8x1536_S1x1536_1_0).mpr hr⟩
      · exact ⟨_, List.mem_cons_of_mem _ (List.mem_cons_of_mem _ List.mem_cons_self), (hm 0 inb_S8x1536_S1x1536_0_0).mpr hr⟩
  · rw [View.canon_cons_of_not_mem, View.canon_cons_of_not_mem, View.canon_cons_of_not_mem]
    · unfold blockRow
      rw [if_neg h]
      have he : (ix2 r l : S8x1536.Idx) = (Rect.unit (s := S8x1536) ![0, 0] ![8, 1536] inb_S8x1536_S8x1536_0_0).emb (ix2 r l) := by
        funext a
        fin_cases a
        · exact Fin.ext (by show r.val = 0 + 1 * r.val; omega)
        · exact Fin.ext (by show l.val = 0 + 1 * l.val; omega)
      rw [he, View.canon_cons_emb]
      exact pay3_apply _
    · exact fun hc => h (((hm 0 inb_S8x1536_S1x1536_0_0).mp hc).trans_lt (by decide))
    · exact fun hc => h (((hm 1 inb_S8x1536_S1x1536_1_0).mp hc).trans_lt (by decide))
    · exact fun hc => h (((hm 2 inb_S8x1536_S1x1536_2_0).mp hc).trans_lt (by decide))

variable (m : (ℓ : Loc nD τ sig) → Buf (Elt Ideal) ℓ)

/-- The batches' conditions, an argument. -/
def conds (c : Dev nD) : FVec Ideal S2x1024 .f32 := m ((c : Thread nD τ).loc main_arg0)
/-- The context's condition, an argument. -/
def context (c : Dev nD) : FVec Ideal S1024 .f32 := m ((c : Thread nD τ).loc main_arg1)
/-- The weights, an argument. -/
def weights (c : Dev nD) : FVec Ideal S1x1024x6144 .f32 := m ((c : Thread nD τ).loc main_arg2)
/-- The offsets, an argument. -/
def offsets (c : Dev nD) : FVec Ideal S1x6144 .f32 := m ((c : Thread nD τ).loc main_arg3)

/-- The array of conditions as the launch finds it. -/
theorem entry_eq (c : Dev nD) : V m c main_v3 = transpose S1024x8 [1, 0] (concatenate S8x1024 0 [⟨S2x1024, conds m c⟩,
    ⟨S1x1024, broadcastInDim S1x1024 ![1] bcast_S1024_S1x1024_1 (context m c)⟩,
    ⟨S5x1024, broadcastInDim S5x1024 ![] bcast_S_S5x1024 (constant (F := Ideal) S_ .f32 0x00000000#32)⟩]
    concatenates_S2x1024_S1x1024_S5x1024_S8x1024_d0) transposes_S8x1024_S1024x8_1_0 := by
  have hc : ∀ (a a' : FVec Ideal S2x1024 .f32) (b b' : FVec Ideal S1x1024 .f32) (d d' : FVec Ideal S5x1024 .f32), a = a' → b = b' → d = d' →
      concatenate S8x1024 0 [⟨S2x1024, a⟩, ⟨S1x1024, b⟩, ⟨S5x1024, d⟩] concatenates_S2x1024_S1x1024_S5x1024_S8x1024_d0
        = concatenate S8x1024 0 [⟨S2x1024, a'⟩, ⟨S1x1024, b'⟩, ⟨S5x1024, d'⟩] concatenates_S2x1024_S1x1024_S5x1024_S8x1024_d0 := by
    rintro a _ b _ d _ rfl rfl rfl
    rfl
  show StableHlo.after hostOps0 _ main_v3 = _
  simp only [StableHlo.after_cons, StableHlo.after_nil]
  refine (StableHlo.reshape_result_ne (h := by decide) ..).trans ?_
  refine (StableHlo.reshape_result_ne (h := by decide) ..).trans ?_
  refine (StableHlo.reshape_result_ne (h := by decide) ..).trans ?_
  refine (StableHlo.unary_result ..).trans ?_
  refine congrArg (fun z : FVec Ideal S8x1024 .f32 => transpose S1024x8 [1, 0] z transposes_S8x1024_S1024x8_1_0) ?_
  refine (StableHlo.nary_result ..).trans ?_
  refine hc _ _ _ _ _ _ ?_ ?_ ?_
  · exact (StableHlo.unary_result_ne (h := by decide) ..).trans ((StableHlo.nullary_result_ne (h := by decide) ..).trans
      ((StableHlo.unary_result_ne (h := by decide) ..).trans rfl))
  · exact (StableHlo.unary_result_ne (h := by decide) ..).trans ((StableHlo.nullary_result_ne (h := by decide) ..).trans
      ((StableHlo.unary_result ..).trans rfl))
  · exact (StableHlo.unary_result ..).trans (congrArg _ (StableHlo.nullary_result ..))

/-- The conditions as the launch finds them, columns of one array. -/
theorem entry_c (c : Dev nD) (d : Fin 1024) (r : Fin 8) (h : r.val < 3) : V m c main_v3 (ix2 d r) = cond (conds m c) (context m c) r.val d := by
  rw [entry_eq]
  unfold cond
  fin_cases r
  · pointwise
  · pointwise
  · pointwise
  all_goals (exfalso; revert h; decide)

/-- The weights as the launch finds them. -/
theorem entry_w (c : Dev nD) (d : Fin 1024) (l : Fin 6144) : V m c main_v4 (ix2 d l) = weights m c (ix3 0 d l) := by
  unfold weights
  entry_read
  pointwise

/-- The offsets as the launch finds them. -/
theorem entry_b (c : Dev nD) (l : Fin 6144) : V m c main_v6 (ix2 0 l) = offsets m c (ix2 0 l) := by
  unfold offsets
  entry_read
  pointwise

/-- Every window's block index at a grid point. -/
theorem idx : ∀ t : Fin cfg0.N, win0_3.index t 0 = 0 ∧ win0_3.index t 1 < 4 ∧ win0_0.index t = ![0, 0] ∧ win0_1.index t = ![0, win0_3.index t 1]
    ∧ win0_2.index t = ![0, win0_3.index t 1] :=
  (by decide +kernel : ∀ t : Fin grid0.N, _)

/-- The column of the array that a block's column is. -/
def colOf (t : Fin cfg0.N) (l : Fin 1536) : Fin 6144 := ⟨win0_3.index t 1 * 1536 + l.val, by have := (idx t).2.1; omega⟩

/-- The block of conditions. -/
theorem block_c (c : Dev nD) (t : Fin cfg0.N) (d : Fin 1024) (r : Fin 8) (h : r.val < 3) : iblk m c 0 t (ix2 d r) = cond (conds m c) (context m c) r.val d := by
  refine Eq.trans ?_ (entry_c m c d r h)
  blk_ext! [iblk, idx t]

/-- A block of the weights. -/
theorem block_w (c : Dev nD) (t : Fin cfg0.N) (d : Fin 1024) (l : Fin 1536) : iblk m c 1 t (ix2 d l) = weights m c (ix3 0 d (colOf t l)) := by
  refine Eq.trans ?_ (entry_w m c d (colOf t l))
  blk_ext! [iblk, idx t, colOf]

/-- A block of the offsets. -/
theorem block_b (c : Dev nD) (t : Fin cfg0.N) (l : Fin 1536) : iblk m c 2 t (ix2 0 l) = offsets m c (ix2 0 (colOf t l)) := by
  refine Eq.trans ?_ (entry_b m c (colOf t l))
  blk_ext! [iblk, idx t, colOf]

/-- The result's block at a point. -/
theorem point (c : Dev nD) (t : Fin cfg0.N) (r : Fin 8) (l : Fin 1536) :
    outsAt0 m c t (ix2 r l) = modVec (conds m c) (context m c) (weights m c) (offsets m c) r.val (colOf t l) := by
  unfold outsAt0
  refine (out3_apply _ _ _ _ _ _ _ _ _ _ _ _ _ r l).trans ?_
  unfold blockRow modVec
  split
  · rename_i h
    exact congrArg₂ (fun a b : EReal => a + b) (Finset.sum_congr rfl fun d _ => congrArg₂ (fun a b : EReal => gate a * b) (block_c m c t d r h) (block_w m c t d l)) (block_b m c t l)
  · rfl

/-- The kernel's result array. -/
theorem final3 (c : Dev nD) : (dats m 0 c).arrAt 3 cfg0.N = fun i =>
    modVec (conds m c) (context m c) (weights m c) (offsets m c) (i 0).val (i 1) := by
  refine (dats m 0 c).arrAt_eq_of_covers 3 _ (by decide +kernel) fun t hf y => ?_
  blk_simp
  rw [after0_3]
  have h0 : (y 0).val < 8 := (y 0).isLt
  have h1 : (y 1).val < 1536 := (y 1).isLt
  have hy : y = ix2 ⟨(y 0).val, h0⟩ ⟨(y 1).val, h1⟩ := by
    funext a
    fin_cases a <;> rfl
  refine (congrArg (outsAt0 m c t) hy).trans ((point m c t ⟨(y 0).val, h0⟩ ⟨(y 1).val, h1⟩).trans ?_)
  have e0 : (⟨(y 0).val, h0⟩ : Fin 8).val = win0_3.index t 0 * 8 + (y 0).val := by
    show (y 0).val = _
    rw [(idx t).1]
    omega
  have e1 : colOf t ⟨(y 1).val, h1⟩ = (win0_3.blk t).view.emb y 1 := Fin.ext (by blk_simp [colOf])
  rw [← e0, ← e1]

end Kernel

section Reference

open Cert.Reference4Ideal Cert.Reference4Ideal.Gen Cert.Reference4Ideal.Read

variable (x0 : FVec Ideal S2x1024 .f32) (x1 : FVec Ideal S1024 .f32) (x2 : FVec Ideal S1x1024x6144 .f32) (x3 : FVec Ideal S1x6144 .f32)

/-- The constant one. -/
theorem one_eq : Ideal.ofBits .f32 0x3F800000#32 = 1 :=
  Ideal.ofBits_one_f32

/-- The batches' gated conditions. -/
theorem gate_apply (b : Fin 2) (d : Fin 1024) : val_main_v0 (F := Ideal) x0 (ix2 b d) = gate (x0 (ix2 b d)) := by
  unfold gate Ideal.logistic
  rw [← one_eq]
  pointwise [val_main_v0, val_main_call0_v0, val_main_call0_v1, val_main_call0_v2, val_main_call0_v3, val_main_call0_v4, val_main_call0_v5, val_main_call0_cst, val_main_call0_cst_0]

/-- The context's gated condition. -/
theorem gate_context (d : Fin 1024) : val_main_v7 (F := Ideal) x1 (ix1 d) = gate (x1 (ix1 d)) := by
  unfold gate Ideal.logistic
  rw [← one_eq]
  pointwise [val_main_v7, val_main_call1_v0, val_main_call1_v1, val_main_call1_v2, val_main_call1_v3, val_main_call1_v4, val_main_call1_v5, val_main_call1_cst, val_main_call1_cst_0]

/-- The batches' rows. -/
theorem rows_apply (b : Fin 2) (l : Fin 6144) :
    val_main_v6 (F := Ideal) x0 x2 x3 (ix2 b l) = (∑ d : Fin 1024, gate (x0 (ix2 b d)) * x2 (ix3 0 d l) : EReal) + x3 (ix2 0 l) := by
  have hl : ∀ d, lidx_main_v2 (ix2 b l) d = ix2 b d := fun d => by funext a; fin_cases a <;> rfl
  have hr : ∀ d, ridx_main_v2 (ix2 b l) d = ix2 d l := fun d => by funext a; fin_cases a <;> rfl
  have hw : ∀ d : Fin 1024, val_main_v1 (F := Ideal) x2 (ix2 d l) = x2 (ix3 0 d l) := fun d => by pointwise [val_main_v1]
  have hb : val_main_v5 (F := Ideal) x3 (ix2 b l) = x3 (ix2 0 l) := by pointwise [val_main_v5, val_main_v4, val_main_v3]
  have hd : val_main_v2 (F := Ideal) x0 x2 (ix2 b l) = (∑ d : Fin 1024, gate (x0 (ix2 b d)) * x2 (ix3 0 d l) : EReal) := by
    rw [val_main_v2_apply]
    simp only [hl, hr, gate_apply, hw]
  exact congrArg₂ (fun a b : EReal => a + b) hd hb

/-- The context's row. -/
theorem row_context (l : Fin 6144) :
    val_main_v12 (F := Ideal) x1 x2 x3 (ix2 0 l) = (∑ d : Fin 1024, gate (x1 (ix1 d)) * x2 (ix3 0 d l) : EReal) + x3 (ix2 0 l) := by
  have hl : ∀ d, lidx_main_v9 (ix1 l) d = ix1 d := fun d => by funext a; fin_cases a <;> rfl
  have hr : ∀ d, ridx_main_v9 (ix1 l) d = ix2 d l := fun d => by funext a; fin_cases a <;> rfl
  have hw : ∀ d : Fin 1024, val_main_v8 (F := Ideal) x2 (ix2 d l) = x2 (ix3 0 d l) := fun d => by pointwise [val_main_v8]
  have hb : val_main_v10 (F := Ideal) x3 (ix1 l) = x3 (ix2 0 l) := by pointwise [val_main_v10]
  have hd : val_main_v9 (F := Ideal) x1 x2 (ix1 l) = (∑ d : Fin 1024, gate (x1 (ix1 d)) * x2 (ix3 0 d l) : EReal) := by
    rw [val_main_v9_apply]
    simp only [hl, hr, gate_context, hw]
  have h12 : val_main_v12 (F := Ideal) x1 x2 x3 (ix2 0 l) = val_main_v11 (F := Ideal) x1 x2 x3 (ix1 l) := by pointwise [val_main_v12]
  exact h12.trans (congrArg₂ (fun a b : EReal => a + b) hd hb)

/-- The reference's result. -/
theorem result_apply (r : Fin 8) (l : Fin 6144) : val_main_v14 (F := Ideal) x0 x1 x2 x3 (ix2 r l) = modVec x0 x1 x2 x3 r.val l := by
  unfold val_main_v14 modVec cond
  have hz : ∀ i, val_main_v13 (F := Ideal) i = (0 : EReal) := fun i => by
    pointwise [val_main_v13, val_main_cst]
  fin_cases r
  · refine Eq.trans ?_ (rows_apply x0 x2 x3 0 l)
    pointwise
  · refine Eq.trans ?_ (rows_apply x0 x2 x3 1 l)
    pointwise
  · refine Eq.trans ?_ (row_context x1 x2 x3 l)
    pointwise
  all_goals
    refine Eq.trans ?_ (hz (ix2 0 l))
    pointwise [val_main_v13]

/-- The reference's result at an index. -/
theorem vectors_apply (i : S8x6144.Idx) : val_main_v14 (F := Ideal) x0 x1 x2 x3 i = modVec x0 x1 x2 x3 (i 0).val (i 1) := by
  have hi : i = ix2 (i 0) (i 1) := by
    funext a
    fin_cases a <;> rfl
  exact (congrArg (val_main_v14 (F := Ideal) x0 x1 x2 x3) hi).trans (result_apply x0 x1 x2 x3 (i 0) (i 1))

end Reference

end Cert.Conditions

end
-- ==== Proof.Fourier.lean ====
/- The last stage of the Fourier mixing: the kernel's result array and the reference's result as the same function of the arguments. -/
module

public import proofs.«01_k».proof.Proof.Gen.Kernel5Ideal.Value
public import proofs.«01_k».proof.Proof.Gen.Reference5Ideal.Read
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.Pointwise

namespace Cert.Fourier

/-- Frequency `k` of line `(b, j, f)`: the real part of the product of `C - i S` with `R + i I`. -/
def realPart (R I : FVec Ideal Cert.Kernel5Ideal.S2x64x128x512 .f32) (C S : FVec Ideal Cert.Kernel5Ideal.S128x128 .f32)
    (b : Fin 2) (j : Fin 64) (k : Fin 128) (f : Fin 512) : EReal :=
  (∑ n : Fin 128, C (ix2 k n) * R (ix4 b j n f)) + ∑ n : Fin 128, S (ix2 k n) * I (ix4 b j n f)

section Kernel

open Cert.Kernel5Ideal Cert.Kernel5Ideal.Gen Idealize.ShloMosaic.TcCoe Idealize.SL.Sem

variable (x0 x1 : Vec Ideal S1x16x128x512 .f32) (x2 x3 : Vec Ideal S128x128 .bf16)

/-- The same for a block. -/
def blockPart (j : Fin 16) (k : Fin 128) (f : Fin 512) : EReal :=
  (∑ n : Fin 128, x2 (ix2 k n) * x0 (ix4 0 j n f)) + ∑ n : Fin 128, x3 (ix2 k n) * x1 (ix4 0 j n f)

/-- One store, from its four loads. -/
theorem pay2_apply (v w : Vec Ideal S1x1x128x512 .f32) (k : Fin 128) (f : Fin 512) :
    k0_pay2 x2 v x3 w (ix4 0 k 0 f) = (∑ n : Fin 128, x2 (ix2 k n) * v (ix4 0 0 n f) : EReal) + (∑ n : Fin 128, x3 (ix2 k n) * w (ix4 0 0 n f) : EReal) := by
  pointwise [k0_pay2]

/-- A load of one of the sixteen slabs. -/
theorem ld_slab (j : Fin 16) (inb : ∀ a, (![0, j.val, 0, 0] : Fin 4 → ℕ) a + S1x1x128x512.size a ≤ S1x16x128x512.size a) (x : Vec Ideal S1x16x128x512 .f32)
    (n : Fin 128) (f : Fin 512) :
    View.ld x (Rect.unit (s := S1x16x128x512) ![0, j.val, 0, 0] S1x1x128x512.size inb) (ix4 0 0 n f) = x (ix4 0 j n f) :=
  congrArg x (funext fun a => Fin.ext (by
    fin_cases a
    · rfl
    · show j.val + 1 * 0 = j.val; omega
    · show 0 + 1 * n.val = n.val; omega
    · show 0 + 1 * f.val = f.val; omega))

/-- A load of a whole table. -/
theorem ld_table (x : Vec Ideal S128x128 .bf16) : View.ld x r0_0 = x :=
  funext fun i => congrArg x (funext fun a => Fin.ext (by
    fin_cases a
    · show 0 + 1 * (i 0).val = (i 0).val; omega
    · show 0 + 1 * (i 1).val = (i 1).val; omega))

/-- One store at its place in the block. -/
theorem piece_apply (j : Fin 16) (v w : Vec Ideal S1x1x128x512 .f32) (hv : ∀ n f, v (ix4 0 0 n f) = x0 (ix4 0 j n f)) (hw : ∀ n f, w (ix4 0 0 n f) = x1 (ix4 0 j n f))
    (x : S1x128x1x512.Idx) (y : S1x128x16x512.Idx) (h1 : (y 1).val = 0 + 1 * (x 1).val) (h2 : (y 2).val = j.val + 1 * (x 2).val) (h3 : (y 3).val = 0 + 1 * (x 3).val) :
    k0_pay2 x2 v x3 w x = blockPart x0 x1 x2 x3 (y 2) (y 1) (y 3) := by
  have b0 : (x 0).val < 1 := (x 0).isLt
  have b2 : (x 2).val < 1 := (x 2).isLt
  have hx : x = ix4 0 (x 1) 0 (x 3) := by
    funext a
    fin_cases a
    · exact Fin.ext (by show (x 0).val = 0; omega)
    · rfl
    · exact Fin.ext (by show (x 2).val = 0; omega)
    · rfl
  have e1 : y 1 = x 1 := Fin.ext (by omega)
  have e2 : y 2 = j := Fin.ext (by omega)
  have e3 : y 3 = x 3 := Fin.ext (by omega)
  rw [e1, e2, e3]
  refine (congrArg (k0_pay2 x2 v x3 w) hx).trans ((pay2_apply x2 x3 v w (x 1) (x 3)).trans ?_)
  unfold blockPart
  exact congrArg₂ (fun a b : EReal => a + b) (Finset.sum_congr rfl fun n _ => congrArg (fun z : EReal => x2 (ix2 (x 1) n) * z) (hv n (x 3)))
    (Finset.sum_congr rfl fun n _ => congrArg (fun z : EReal => x3 (ix2 (x 1) n) * z) (hw n (x 3)))

set_option maxHeartbeats 1600000 in
/-- A block of the result, from the input blocks. -/
theorem out4_apply (y : S1x128x16x512.Idx) : out0_4 (F := Ideal) x0 x1 x2 x3 y = blockPart x0 x1 x2 x3 (y 2) (y 1) (y 3) := by
  unfold out0_4
  rw [ld_table, ld_table]
  refine View.canon_apply_of_pieces (Val := Elt Ideal) (e := .f32) (fun y => blockPart x0 x1 x2 x3 (y 2) (y 1) (y 3)) _ ?_ y (cover0_4 _ _ _ _ _ _ _ _ _ _ _ _ _ _ _ _ y)
  intro pc hpc
  rcases List.mem_cons.mp hpc with rfl | hpc
  · exact fun x => piece_apply x0 x1 x2 x3 15 _ _ (ld_slab 15 inb_S1x16x128x512_S1x1x128x512_0_15_0_0 x0) (ld_slab 15 inb_S1x16x128x512_S1x1x128x512_0_15_0_0 x1) x _ rfl rfl rfl
  rcases List.mem_cons.mp hpc with rfl | hpc
  · exact fun x => piece_apply x0 x1 x2 x3 14 _ _ (ld_slab 14 inb_S1x16x128x512_S1x1x128x512_0_14_0_0 x0) (ld_slab 14 inb_S1x16x128x512_S1x1x128x512_0_14_0_0 x1) x _ rfl rfl rfl
  rcases List.mem_cons.mp hpc with rfl | hpc
  · exact fun x => piece_apply x0 x1 x2 x3 13 _ _ (ld_slab 13 inb_S1x16x128x512_S1x1x128x512_0_13_0_0 x0) (ld_slab 13 inb_S1x16x128x512_S1x1x128x512_0_13_0_0 x1) x _ rfl rfl rfl
  rcases List.mem_cons.mp hpc with rfl | hpc
  · exact fun x => piece_apply x0 x1 x2 x3 12 _ _ (ld_slab 12 inb_S1x16x128x512_S1x1x128x512_0_12_0_0 x0) (ld_slab 12 inb_S1x16x128x512_S1x1x128x512_0_12_0_0 x1) x _ rfl rfl rfl
  rcases List.mem_cons.mp hpc with rfl | hpc
  · exact fun x => piece_apply x0 x1 x2 x3 11 _ _ (ld_slab 11 inb_S1x16x128x512_S1x1x128x512_0_11_0_0 x0) (ld_slab 11 inb_S1x16x128x512_S1x1x128x512_0_11_0_0 x1) x _ rfl rfl rfl
  rcases List.mem_cons.mp hpc with rfl | hpc
  · exact fun x => piece_apply x0 x1 x2 x3 10 _ _ (ld_slab 10 inb_S1x16x128x512_S1x1x128x512_0_10_0_0 x0) (ld_slab 10 inb_S1x16x128x512_S1x1x128x512_0_10_0_0 x1) x _ rfl rfl rfl
  rcases List.mem_cons.mp hpc with rfl | hpc
  · exact fun x => piece_apply x0 x1 x2 x3 9 _ _ (ld_slab 9 inb_S1x16x128x512_S1x1x128x512_0_9_0_0 x0) (ld_slab 9 inb_S1x16x128x512_S1x1x128x512_0_9_0_0 x1) x _ rfl rfl rfl
  rcases List.mem_cons.mp hpc with rfl | hpc
  · exact fun x => piece_apply x0 x1 x2 x3 8 _ _ (ld_slab 8 inb_S1x16x128x512_S1x1x128x512_0_8_0_0 x0) (ld_slab 8 inb_S1x16x128x512_S1x1x128x512_0_8_0_0 x1) x _ rfl rfl rfl
  rcases List.mem_cons.mp hpc with rfl | hpc
  · exact fun x => piece_apply x0 x1 x2 x3 7 _ _ (ld_slab 7 inb_S1x16x128x512_S1x1x128x512_0_7_0_0 x0) (ld_slab 7 inb_S1x16x128x512_S1x1x128x512_0_7_0_0 x1) x _ rfl rfl rfl
  rcases List.mem_cons.mp hpc with rfl | hpc
  · exact fun x => piece_apply x0 x1 x2 x3 6 _ _ (ld_slab 6 inb_S1x16x128x512_S1x1x128x512_0_6_0_0 x0) (ld_slab 6 inb_S1x16x128x512_S1x1x128x512_0_6_0_0 x1) x _ rfl rfl rfl
  rcases List.mem_cons.mp hpc with rfl | hpc
  · exact fun x => piece_apply x0 x1 x2 x3 5 _ _ (ld_slab 5 inb_S1x16x128x512_S1x1x128x512_0_5_0_0 x0) (ld_slab 5 inb_S1x16x128x512_S1x1x128x512_0_5_0_0 x1) x _ rfl rfl rfl
  rcases List.mem_cons.mp hpc with rfl | hpc
  · exact fun x => piece_apply x0 x1 x2 x3 4 _ _ (ld_slab 4 inb_S1x16x128x512_S1x1x128x512_0_4_0_0 x0) (ld_slab 4 inb_S1x16x128x512_S1x1x128x512_0_4_0_0 x1) x _ rfl rfl rfl
  rcases List.mem_cons.mp hpc with rfl | hpc
  · exact fun x => piece_apply x0 x1 x2 x3 3 _ _ (ld_slab 3 inb_S1x16x128x512_S1x1x128x512_0_3_0_0 x0) (ld_slab 3 inb_S1x16x128x512_S1x1x128x512_0_3_0_0 x1) x _ rfl rfl rfl
  rcases List.mem_cons.mp hpc with rfl | hpc
  · exact fun x => piece_apply x0 x1 x2 x3 2 _ _ (ld_slab 2 inb_S1x16x128x512_S1x1x128x512_0_2_0_0 x0) (ld_slab 2 inb_S1x16x128x512_S1x1x128x512_0_2_0_0 x1) x _ rfl rfl rfl
  rcases List.mem_cons.mp hpc with rfl | hpc
  · exact fun x => piece_apply x0 x1 x2 x3 1 _ _ (ld_slab 1 inb_S1x16x128x512_S1x1x128x512_0_1_0_0 x0) (ld_slab 1 inb_S1x16x128x512_S1x1x128x512_0_1_0_0 x1) x _ rfl rfl rfl
  rcases List.mem_cons.mp hpc with rfl | hpc
  · exact fun x => piece_apply x0 x1 x2 x3 0 _ _ (ld_slab 0 inb_S1x16x128x512_S1x1x128x512_0_0_0_0 x0) (ld_slab 0 inb_S1x16x128x512_S1x1x128x512_0_0_0_0 x1) x _ rfl rfl rfl
  nomatch hpc

variable (m : (ℓ : Loc nD τ sig) → Buf (Elt Ideal) ℓ)

/-- The real parts, an argument. -/
def re (c : Dev nD) : FVec Ideal S2x64x128x512 .f32 := m ((c : Thread nD τ).loc main_arg0)
/-- The imaginary parts, an argument. -/
def im (c : Dev nD) : FVec Ideal S2x64x128x512 .f32 := m ((c : Thread nD τ).loc main_arg1)
/-- The cosines, an argument. -/
def cosines (c : Dev nD) : FVec Ideal S128x128 .f32 := m ((c : Thread nD τ).loc main_arg2)
/-- The sines, an argument. -/
def sines (c : Dev nD) : FVec Ideal S128x128 .f32 := m ((c : Thread nD τ).loc main_arg3)

/-- The cosines as the launch finds them. -/
theorem entry_cosines (c : Dev nD) (k n : Fin 128) : V m c main_v0 (ix2 k n) = cosines m c (ix2 k n) := by
  unfold cosines
  entry_read
  pointwise

/-- The sines as the launch finds them. -/
theorem entry_sines (c : Dev nD) (k n : Fin 128) : V m c main_v1 (ix2 k n) = sines m c (ix2 k n) := by
  unfold sines
  entry_read
  pointwise

/-- Every window's block index at a grid point. -/
theorem idx : ∀ t : Fin cfg0.N, win0_4.index t 0 < 2 ∧ win0_4.index t 1 = 0 ∧ win0_4.index t 2 < 4 ∧ win0_4.index t 3 = 0
    ∧ win0_0.index t = ![win0_4.index t 0, win0_4.index t 2, 0, 0] ∧ win0_1.index t = ![win0_4.index t 0, win0_4.index t 2, 0, 0]
    ∧ win0_2.index t = ![0, 0] ∧ win0_3.index t = ![0, 0] :=
  (by decide +kernel : ∀ t : Fin grid0.N, _)

/-- The batch of a grid point. -/
def batchOf (t : Fin cfg0.N) : Fin 2 := ⟨win0_4.index t 0, (idx t).1⟩

/-- The line of the array that a block's line is. -/
def lineOf (t : Fin cfg0.N) (j : Fin 16) : Fin 64 := ⟨win0_4.index t 2 * 16 + j.val, by have := (idx t).2.2.1; omega⟩

/-- A block of the real parts. -/
theorem block_re (c : Dev nD) (t : Fin cfg0.N) (j : Fin 16) (n : Fin 128) (f : Fin 512) :
    iblk m c 0 t (ix4 0 j n f) = re m c (ix4 (batchOf t) (lineOf t j) n f) := by
  unfold re
  blk_ext! [iblk, V, idx t, batchOf, lineOf]

/-- A block of the imaginary parts. -/
theorem block_im (c : Dev nD) (t : Fin cfg0.N) (j : Fin 16) (n : Fin 128) (f : Fin 512) :
    iblk m c 1 t (ix4 0 j n f) = im m c (ix4 (batchOf t) (lineOf t j) n f) := by
  unfold im
  blk_ext! [iblk, V, idx t, batchOf, lineOf]

/-- The block of the cosines. -/
theorem block_cosines (c : Dev nD) (t : Fin cfg0.N) (k n : Fin 128) : iblk m c 2 t (ix2 k n) = cosines m c (ix2 k n) := by
  refine Eq.trans ?_ (entry_cosines m c k n)
  blk_ext! [iblk, idx t]

/-- The block of the sines. -/
theorem block_sines (c : Dev nD) (t : Fin cfg0.N) (k n : Fin 128) : iblk m c 3 t (ix2 k n) = sines m c (ix2 k n) := by
  refine Eq.trans ?_ (entry_sines m c k n)
  blk_ext! [iblk, idx t]

/-- The result's block at a point. -/
theorem point (c : Dev nD) (t : Fin cfg0.N) (j : Fin 16) (k : Fin 128) (f : Fin 512) :
    blockPart (iblk m c 0 t) (iblk m c 1 t) (iblk m c 2 t) (iblk m c 3 t) j k f
      = realPart (re m c) (im m c) (cosines m c) (sines m c) (batchOf t) (lineOf t j) k f := by
  unfold blockPart realPart
  exact congrArg₂ (fun a b : EReal => a + b)
    (Finset.sum_congr rfl fun n _ => congrArg₂ (fun a b : EReal => a * b) (block_cosines m c t k n) (block_re m c t j n f))
    (Finset.sum_congr rfl fun n _ => congrArg₂ (fun a b : EReal => a * b) (block_sines m c t k n) (block_im m c t j n f))

/-- The kernel's result array. -/
theorem final4 (c : Dev nD) : (dats m 0 c).arrAt 4 cfg0.N = fun i =>
    realPart (re m c) (im m c) (cosines m c) (sines m c) (i 0) (i 2) (i 1) (i 3) := by
  refine (dats m 0 c).arrAt_eq_of_covers 4 _ (by decide +kernel) fun t hf y => ?_
  blk_simp
  rw [after0_4]
  have h1 : (y 1).val < 128 := (y 1).isLt
  have h2 : (y 2).val < 16 := (y 2).isLt
  have h3 : (y 3).val < 512 := (y 3).isLt
  have hy : y = ix4 0 ⟨(y 1).val, h1⟩ ⟨(y 2).val, h2⟩ ⟨(y 3).val, h3⟩ := by
    funext a
    fin_cases a
    · exact Fin.ext (by have : (y 0).val < 1 := (y 0).isLt; show (y 0).val = 0; omega)
    · rfl
    · rfl
    · rfl
  refine (congrArg (out0_4 _ _ _ _) hy).trans ((out4_apply _ _ _ _ _).trans ((point m c t ⟨(y 2).val, h2⟩ ⟨(y 1).val, h1⟩ ⟨(y 3).val, h3⟩).trans ?_))
  have e0 : batchOf t = (win0_4.blk t).view.emb y 0 := Fin.ext (by blk_simp [batchOf])
  have e1 : (⟨(y 1).val, h1⟩ : Fin 128) = (win0_4.blk t).view.emb y 1 := Fin.ext (by blk_simp [idx t])
  have e2 : lineOf t ⟨(y 2).val, h2⟩ = (win0_4.blk t).view.emb y 2 := Fin.ext (by blk_simp [lineOf])
  have e3 : (⟨(y 3).val, h3⟩ : Fin 512) = (win0_4.blk t).view.emb y 3 := Fin.ext (by blk_simp [idx t])
  rw [e0, e1, e2, e3]

end Kernel

section Reference

open Cert.Reference5Ideal Cert.Reference5Ideal.Gen Cert.Reference5Ideal.Read

variable (x0 x1 : FVec Ideal S2x64x128x512 .f32) (x2 x3 : FVec Ideal S128x128 .f32)

/-- The reference's result. -/
theorem result_apply (i : S2x128x64x512.Idx) : val_main_v5 (F := Ideal) x0 x1 x2 x3 i = realPart x0 x1 x2 x3 (i 0) (i 2) (i 1) (i 3) := by
  unfold realPart
  rw [val_main_v5_apply, val_main_v4_apply, val_main_v1_apply, val_main_v3_apply, val_main_v0_apply, val_main_v2_apply]
  have hl : ∀ n, lidx_main_v0 (idx_main_v1 (idx_main_v5 i)) n = ix4 (i 0) (i 2) n (i 3) := fun n => by funext a; fin_cases a <;> rfl
  have hr : ∀ n, ridx_main_v0 (idx_main_v1 (idx_main_v5 i)) n = ix2 (i 1) n := fun n => by funext a; fin_cases a <;> rfl
  have hl' : ∀ n, lidx_main_v2 (idx_main_v3 (idx_main_v5 i)) n = ix4 (i 0) (i 2) n (i 3) := fun n => by funext a; fin_cases a <;> rfl
  have hr' : ∀ n, ridx_main_v2 (idx_main_v3 (idx_main_v5 i)) n = ix2 (i 1) n := fun n => by funext a; fin_cases a <;> rfl
  refine congrArg₂ (fun a b : EReal => a + b) (Finset.sum_congr rfl fun n _ => ?_) (Finset.sum_congr rfl fun n _ => ?_)
  · rw [hl, hr]
    exact mul_comm _ _
  · rw [hl', hr']
    exact mul_comm _ _

end Reference

end Cert.Fourier

end
-- ==== Proof.Fold.lean ====
/- The channels' transform folded into the Fourier weights: the kernel's result array and the reference's result as the same function of the arguments. -/
module

public import proofs.«01_k».proof.Proof.Gen.Kernel6Ideal.Value
public import proofs.«01_k».proof.Proof.Gen.Reference6Ideal.Read
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.Pointwise

namespace Cert.Fold

/-- Row `x`, column `l` of group `g`'s folded weights: the cosines' product in the first 128 columns, the sines' after. -/
def fold (C S : FVec Ideal Cert.Kernel6Ideal.S128x128 .f32) (W : FVec Ideal Cert.Kernel6Ideal.S1x4x128x128 .f32) (g : Fin 4) (x : Fin 128) (l : ℕ) : EReal :=
  ∑ d : Fin 128, (if l < 128 then C else S) (ix2 x d) * W (ix4 0 g d ⟨l % 128, Nat.mod_lt _ (by decide)⟩)

section Kernel

open Cert.Kernel6Ideal Cert.Kernel6Ideal.Gen Idealize.ShloMosaic.TcCoe Idealize.SL.Sem

variable (x0 x1 : Vec Ideal S128x128 .f32) (x2 : Vec Ideal S1x128x128 .f32)

/-- The same for a block. -/
def blockFold (x : Fin 128) (l : ℕ) : EReal :=
  ∑ d : Fin 128, (if l < 128 then x0 else x1) (ix2 x d) * x2 (ix3 0 d ⟨l % 128, Nat.mod_lt _ (by decide)⟩)

/-- The first store. -/
theorem pay2_apply (x l : Fin 128) : k0_pay2 x2 x0 (ix3 0 x l) = (∑ d : Fin 128, x0 (ix2 x d) * x2 (ix3 0 d l) : EReal) := by
  pointwise [k0_pay2, k0_pay1]

/-- The second store. -/
theorem pay3_apply (x l : Fin 128) : k0_pay3 x2 x1 (ix3 0 x l) = (∑ d : Fin 128, x1 (ix2 x d) * x2 (ix3 0 d l) : EReal) := by
  pointwise [k0_pay3, k0_pay1]

/-- A load of a whole table. -/
theorem ld_table (x : Vec Ideal S128x128 .f32) : View.ld x r0_1 = x :=
  funext fun i => congrArg x (funext fun a => Fin.ext (by
    fin_cases a
    · show 0 + 1 * (i 0).val = (i 0).val; omega
    · show 0 + 1 * (i 1).val = (i 1).val; omega))

/-- A load of a whole group's weights. -/
theorem ld_group (x : Vec Ideal S1x128x128 .f32) : View.ld x r0_0 = x :=
  funext fun i => congrArg x (funext fun a => Fin.ext (by
    fin_cases a
    · show 0 + 1 * (i 0).val = (i 0).val; omega
    · show 0 + 1 * (i 1).val = (i 1).val; omega
    · show 0 + 1 * (i 2).val = (i 2).val; omega))

/-- An index of a store. -/
theorem store_idx (x : S1x128x128.Idx) : ∃ r l : Fin 128, x = ix3 0 r l := by
  have b0 : (x 0).val < 1 := (x 0).isLt
  refine ⟨x 1, x 2, ?_⟩
  funext a
  fin_cases a
  · exact Fin.ext (by show (x 0).val = 0; omega)
  · rfl
  · rfl

/-- A block of the result, from the input blocks. -/
theorem out3_apply (y : S1x128x256.Idx) : out0_3 (F := Ideal) x0 x1 x2 y = blockFold x0 x1 x2 (y 1) (y 2).val := by
  unfold out0_3
  rw [ld_table, ld_table, ld_group]
  refine View.canon_apply_of_pieces (Val := Elt Ideal) (e := .bf16) (fun y => blockFold x0 x1 x2 (y 1) (y 2).val) _ ?_ y (cover0_3 _ _ y)
  intro pc hpc
  rcases List.mem_cons.mp hpc with rfl | hpc
  · intro x
    obtain ⟨r, l, rfl⟩ := store_idx x
    have e1 : (r0_3.emb (ix3 0 r l)) 1 = r := Fin.ext (by show 0 + 1 * r.val = r.val; omega)
    have e2 : ((r0_3.emb (ix3 0 r l)) 2).val = 128 + l.val := by show 128 + 1 * l.val = 128 + l.val; omega
    refine (pay3_apply x1 x2 r l).trans ?_
    show _ = blockFold x0 x1 x2 ((r0_3.emb (ix3 0 r l)) 1) ((r0_3.emb (ix3 0 r l)) 2).val
    rw [e1, e2]
    unfold blockFold
    rw [if_neg (by omega)]
    have e : (⟨(128 + l.val) % 128, Nat.mod_lt _ (by decide)⟩ : Fin 128) = l := Fin.ext (by show (128 + l.val) % 128 = l.val; omega)
    rw [e]
  rcases List.mem_cons.mp hpc with rfl | hpc
  · intro x
    obtain ⟨r, l, rfl⟩ := store_idx x
    have e1 : (r0_2.emb (ix3 0 r l)) 1 = r := Fin.ext (by show 0 + 1 * r.val = r.val; omega)
    have e2 : ((r0_2.emb (ix3 0 r l)) 2).val = l.val := by show 0 + 1 * l.val = l.val; omega
    refine (pay2_apply x0 x2 r l).trans ?_
    show _ = blockFold x0 x1 x2 ((r0_2.emb (ix3 0 r l)) 1) ((r0_2.emb (ix3 0 r l)) 2).val
    rw [e1, e2]
    unfold blockFold
    rw [if_pos (by omega)]
    have e : (⟨l.val % 128, Nat.mod_lt _ (by decide)⟩ : Fin 128) = l := Fin.ext (by show l.val % 128 = l.val; omega)
    rw [e]
  nomatch hpc

variable (m : (ℓ : Loc nD τ sig) → Buf (Elt Ideal) ℓ)

/-- The cosines, an argument. -/
def cosines (c : Dev nD) : FVec Ideal S128x128 .f32 := m ((c : Thread nD τ).loc main_arg0)
/-- The sines, an argument. -/
def sines (c : Dev nD) : FVec Ideal S128x128 .f32 := m ((c : Thread nD τ).loc main_arg1)
/-- The Fourier weights, an argument. -/
def weights (c : Dev nD) : FVec Ideal S1x4x128x128 .f32 := m ((c : Thread nD τ).loc main_arg2)

/-- The weights as the launch finds them. -/
theorem entry_w (c : Dev nD) (g : Fin 4) (d l : Fin 128) : V m c main_v0 (ix3 g d l) = weights m c (ix4 0 g d l) := by
  unfold weights
  entry_read
  pointwise

/-- Every window's block index at a grid point. -/
theorem idx : ∀ t : Fin cfg0.N, win0_3.index t 0 < 4 ∧ win0_3.index t 1 = 0 ∧ win0_3.index t 2 = 0
    ∧ win0_0.index t = ![0, 0] ∧ win0_1.index t = ![0, 0] ∧ win0_2.index t = ![win0_3.index t 0, 0, 0] :=
  (by decide +kernel : ∀ t : Fin grid0.N, _)

/-- The group of a grid point. -/
def groupOf (t : Fin cfg0.N) : Fin 4 := ⟨win0_3.index t 0, (idx t).1⟩

/-- The block of the cosines. -/
theorem block_cosines (c : Dev nD) (t : Fin cfg0.N) (x d : Fin 128) : iblk m c 0 t (ix2 x d) = cosines m c (ix2 x d) := by
  unfold cosines
  blk_ext! [iblk, V, idx t]

/-- The block of the sines. -/
theorem block_sines (c : Dev nD) (t : Fin cfg0.N) (x d : Fin 128) : iblk m c 1 t (ix2 x d) = sines m c (ix2 x d) := by
  unfold sines
  blk_ext! [iblk, V, idx t]

/-- A block of the weights. -/
theorem block_w (c : Dev nD) (t : Fin cfg0.N) (d l : Fin 128) : iblk m c 2 t (ix3 0 d l) = weights m c (ix4 0 (groupOf t) d l) := by
  refine Eq.trans ?_ (entry_w m c (groupOf t) d l)
  blk_ext! [iblk, idx t, groupOf]

/-- The result's block at a point. -/
theorem point (c : Dev nD) (t : Fin cfg0.N) (x : Fin 128) (l : ℕ) :
    blockFold (iblk m c 0 t) (iblk m c 1 t) (iblk m c 2 t) x l = fold (cosines m c) (sines m c) (weights m c) (groupOf t) x l := by
  unfold blockFold fold
  refine Finset.sum_congr rfl fun d _ => congrArg₂ (fun a b : EReal => a * b) ?_ (block_w m c t d _)
  split
  · exact block_cosines m c t x d
  · exact block_sines m c t x d

/-- The kernel's result array. -/
theorem final3 (c : Dev nD) : (dats m 0 c).arrAt 3 cfg0.N = fun i =>
    fold (cosines m c) (sines m c) (weights m c) (i 0) (i 1) (i 2).val := by
  refine (dats m 0 c).arrAt_eq_of_covers 3 _ (by decide +kernel) fun t hf y => ?_
  blk_simp
  rw [after0_3]
  have h1 : (y 1).val < 128 := (y 1).isLt
  have h2 : (y 2).val < 256 := (y 2).isLt
  have hy : y = ix3 0 ⟨(y 1).val, h1⟩ ⟨(y 2).val, h2⟩ := by
    funext a
    fin_cases a
    · exact Fin.ext (by have : (y 0).val < 1 := (y 0).isLt; show (y 0).val = 0; omega)
    · rfl
    · rfl
  refine (congrArg (out0_3 _ _ _) hy).trans ((out3_apply _ _ _ _).trans ((point m c t ⟨(y 1).val, h1⟩ (y 2).val).trans ?_))
  have e0 : groupOf t = (win0_3.blk t).view.emb y 0 := Fin.ext (by blk_simp [groupOf])
  have e1 : (⟨(y 1).val, h1⟩ : Fin 128) = (win0_3.blk t).view.emb y 1 := Fin.ext (by blk_simp [idx t])
  have e2 : (y 2).val = win0_3.index t 2 * 256 + (y 2).val := by rw [(idx t).2.2.1]; omega
  rw [e0, e1]
  exact congrArg (fold (cosines m c) (sines m c) (weights m c) _ _) e2

end Kernel

section Reference

open Cert.Reference6Ideal Cert.Reference6Ideal.Gen Cert.Reference6Ideal.Read

variable (x0 x1 : FVec Ideal S128x128 .f32) (x2 : FVec Ideal S1x4x128x128 .f32)

/-- The cosines' product. -/
theorem cosines_apply (g : Fin 4) (x l : Fin 128) : val_main_v2 (F := Ideal) x0 x2 (ix3 g x l) = (∑ d : Fin 128, x0 (ix2 x d) * x2 (ix4 0 g d l) : EReal) := by
  rw [val_main_v2_apply, val_main_v1_apply]
  have hl : ∀ d, lidx_main_v1 (idx_main_v2 (ix3 g x l)) d = ix3 g d l := fun n => by funext a; fin_cases a <;> rfl
  have hr : ∀ d, ridx_main_v1 (idx_main_v2 (ix3 g x l)) d = ix2 x d := fun n => by funext a; fin_cases a <;> rfl
  have hw : ∀ d, val_main_v0 (F := Ideal) x2 (ix3 g d l) = x2 (ix4 0 g d l) := fun d => by pointwise [val_main_v0]
  refine Finset.sum_congr rfl fun d _ => ?_
  rw [hl, hr, hw]
  exact mul_comm _ _

/-- The sines' product. -/
theorem sines_apply (g : Fin 4) (x l : Fin 128) : val_main_v5 (F := Ideal) x1 x2 (ix3 g x l) = (∑ d : Fin 128, x1 (ix2 x d) * x2 (ix4 0 g d l) : EReal) := by
  rw [val_main_v5_apply, val_main_v4_apply]
  have hl : ∀ d, lidx_main_v4 (idx_main_v5 (ix3 g x l)) d = ix3 g d l := fun n => by funext a; fin_cases a <;> rfl
  have hr : ∀ d, ridx_main_v4 (idx_main_v5 (ix3 g x l)) d = ix2 x d := fun n => by funext a; fin_cases a <;> rfl
  have hw : ∀ d, val_main_v3 (F := Ideal) x2 (ix3 g d l) = x2 (ix4 0 g d l) := fun d => by pointwise [val_main_v3]
  refine Finset.sum_congr rfl fun d _ => ?_
  rw [hl, hr, hw]
  exact mul_comm _ _

/-- The reference's result. -/
theorem result_apply (i : S4x128x256.Idx) : val_main_v7 (F := Ideal) x0 x1 x2 i = fold x0 x1 x2 (i 0) (i 1) (i 2).val := by
  obtain ⟨g, x, l, rfl⟩ : ∃ (g : Fin 4) (x : Fin 128) (l : Fin 256), i = ix3 g x l := ⟨i 0, i 1, i 2, by funext a; fin_cases a <;> rfl⟩
  show _ = fold x0 x1 x2 g x l.val
  unfold fold
  by_cases h : l.val < 128
  · rw [if_pos h]
    refine Eq.trans ?_ (cosines_apply x0 x2 g x _)
    have e : (⟨l.val % 128, Nat.mod_lt _ (by decide)⟩ : Fin 128) = ⟨l.val, h⟩ := Fin.ext (Nat.mod_eq_of_lt h)
    rw [e]
    pointwise [val_main_v7, val_main_v6]
    exact dif_pos h
  · rw [if_neg h]
    refine Eq.trans ?_ (sines_apply x1 x2 g x _)
    have e : (⟨l.val % 128, Nat.mod_lt _ (by decide)⟩ : Fin 128) = ⟨l.val - 128, by omega⟩ := Fin.ext (by show l.val % 128 = l.val - 128; omega)
    rw [e]
    pointwise [val_main_v7, val_main_v6]
    exact dif_neg h

end Reference

end Cert.Fold

end
-- ==== Proof.Rope.lean ====
/- The rotation of a head's lanes, as the kernel and as the reference compute it. -/
module

public import Idealize.ShloMosaic.Lib.Pointwise
public import Idealize.ShloMosaic.PureOps.Ideal.Laws

@[expose] public section

noncomputable section

namespace Cert.Rope

open Idealize.ShloMosaic

/-- Lane `l` of the rotated row `p`: the lane by the cosine plus its partner, 16 lanes away in a group of 32, by the sine. -/
def ropeOf (p : ℕ → EReal) (c s : EReal) (l : ℕ) : EReal := p l * c + (if l % 32 < 16 then -p (l + 16) else p (l - 16)) * s

/-- The kernel adds both neighbours, one of them by zero. -/
theorem rope_eq (p : ℕ → EReal) (c s u v : EReal) (l : ℕ) (hu : ¬ l % 32 < 16 → u = p (l - 16)) (hv : l % 32 < 16 → v = p (l + 16)) :
    p l * c + u * (if l % 32 < 16 then 0 else s) + v * (if l % 32 < 16 then -s else 0) = ropeOf p c s l := by
  unfold ropeOf
  by_cases h : l % 32 < 16
  · rw [if_pos h, if_pos h, if_pos h, hv h, mul_zero, add_zero, mul_neg, neg_mul]
  · rw [if_neg h, if_neg h, if_neg h, hu h, mul_zero, add_zero]

/-- Division by eight and by the logarithm of two is the product with the inverse of their product. -/
theorem scale_eq (x : EReal) :
    Ideal.div (x * Ideal.ofBits .f32 0x3E000000#32) (Ideal.log (Ideal.ofBits .f32 0x40000000#32)) = x * (((8 * Real.log 2)⁻¹ : ℝ) : EReal) := by
  have e8 : Ideal.ofBits .f32 0x3E000000#32 = ((1 / 8 : ℝ) : EReal) := by
    simp [Ideal.ofBits, Ideal.ieee]
    rw [← EReal.coe_mul]
    congr 1
    norm_num
  have e2 : Ideal.ofBits .f32 0x40000000#32 = ((2 : ℝ) : EReal) := by
    simp [Ideal.ofBits, Ideal.ieee]
    rw [← EReal.coe_mul]
    congr 1
    norm_num
  have hl : 0 < Real.log 2 := Real.log_pos (by norm_num)
  have hn : ((Real.log 2 : ℝ) : EReal) ≠ 0 := by exact_mod_cast hl.ne'
  rw [e8, e2, Ideal.log_coe, if_neg (by norm_num)]
  unfold Ideal.div
  rw [if_neg hn, div_eq_mul_inv, mul_assoc, ← EReal.coe_inv, ← EReal.coe_mul]
  congr 2
  rw [mul_inv]
  norm_num

end Cert.Rope

end
-- ==== Proof.InputSpec.lean ====
/- The input projection as a function of its arguments: the rows normalised, multiplied by the weights, the queries and the keys rotated. -/
module

public import proofs.«01_k».proof.Proof.Norm
public import proofs.«01_k».proof.Proof.Rope
public import proofs.«01_k».proof.Proof.Gen.Kernel2Ideal.Value
public import proofs.«01_k».proof.Proof.Gen.Reference2Ideal.Read
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.Pointwise

namespace Cert.Input

open Cert.Norm Cert.Rope Cert.Kernel2Ideal

/-- The rotation angles, by row, axis and lane: row and column of the grid times the frequencies. -/
def angle : FVec Ideal S8192x2x32 .f32 := Cert.Reference2Ideal.Read.val_main_v25 (F := Ideal)

/-- Column `l` of the projection at row `n` of batch `b`, as a function of the arguments. -/
def inProj (X : FVec Ideal S2x8192x1024 .f32) (M : FVec Ideal S8x6x1024 .f32) (G : FVec Ideal S1x1024 .f32) (W : FVec Ideal S1x1024x2048 .f32)
    (b : Fin 2) (n : Fin 8192) (l : ℕ) : EReal :=
  if h : l < 2048 then
    proj (fun d => X (ix3 b n d)) (fun d => G (ix2 0 d)) (fun d => M (ix3 ⟨b.val, by omega⟩ 1 d)) (fun d => M (ix3 ⟨b.val, by omega⟩ 0 d))
      (fun d => W (ix3 0 d ⟨l, h⟩))
  else 0

/-- The angle of row `n` at lane `l` of a head. -/
def angleAt (n : Fin 8192) (l : ℕ) : EReal := angle (ix3 n ⟨l % 64 / 32, by omega⟩ ⟨l % 32, by omega⟩)

/-- Column `l` of the rotated projection. -/
def ropeProj (X : FVec Ideal S2x8192x1024 .f32) (M : FVec Ideal S8x6x1024 .f32) (G : FVec Ideal S1x1024 .f32) (W : FVec Ideal S1x1024x2048 .f32)
    (b : Fin 2) (n : Fin 8192) (l : ℕ) : EReal :=
  ropeOf (inProj X M G W b n) (Ideal.cos (angleAt n l)) (Ideal.sin (angleAt n l)) l

end Cert.Input

end
-- ==== Proof.InputBody.lean ====
/- One block of the input projection as the kernel computes it from its input blocks. -/
module

public import proofs.«01_k».proof.Proof.InputSpec

@[expose] public section

set_option maxRecDepth 16384

noncomputable section

open Idealize.ShloMosaic Idealize.ShloMosaic.Pointwise

namespace Cert.Input

open Cert.Norm Cert.Rope Cert.Kernel2Ideal Cert.Kernel2Ideal.Gen Idealize.ShloMosaic.TcCoe Idealize.SL.Sem

/-- The normalised rows of a block. -/
theorem pay2_apply (v0 : Vec Ideal S1x6x1024 .f32) (v2 : Vec Ideal S1x1024x1024 .f32) (v4 : Vec Ideal S1x1024 .f32) (r : Fin 1024) (d : Fin 1024) :
    k0_pay2 v0 v2 v4 (ix2 r d)
      = modRow (fun d => v2 (ix3 0 r d)) (fun d => v4 (ix2 0 d)) (fun d => v0 (ix3 0 1 d)) (fun d => v0 (ix3 0 0 d)) d := by
  unfold modRow
  pointwise [k0_pay2]

/-- A head's rotated lane as the kernel computes it: the lane and its two neighbours, 16 lanes away, by three tables. -/
def kerHead (p : Fin 128 → EReal) (c a b : Fin 128 → EReal) (x : Fin 128) : EReal :=
  p x * c x + p ⟨(x.val + 128 - 16) % 128, by omega⟩ * a x + p ⟨(x.val + 128 - 112) % 128, by omega⟩ * b x

/-- The named constant. -/
theorem named_eq : Named.named (F := Ideal) κ "q_scale" (φ := .f32) 0x3E38AA3B#32 = (((8 * Real.log 2)⁻¹ : ℝ) : EReal) := by
  simp [Named.named, κ]

/-- The first head of the queries. -/
theorem pay8_apply (C A B Q : Vec Ideal S1024x128 .f32) (r : Fin 1024) (x : Fin 128) :
    k0_pay8 (F := Ideal) C A B Q (ix3 0 r x)
      = kerHead (fun x => Q (ix2 r x)) (fun x => C (ix2 r x)) (fun x => A (ix2 r x)) (fun x => B (ix2 r x)) x
        * (((8 * Real.log 2)⁻¹ : ℝ) : EReal) := by
  unfold kerHead
  refine Eq.trans ?_ (congrArg (_ * ·) named_eq)
  pointwise [k0_pay8]

/-- The second head of the queries. -/
theorem pay9_apply (C A B : Vec Ideal S1024x128 .f32) (P : Vec Ideal S1024x512 .f32) (r : Fin 1024) (x : Fin 128) :
    k0_pay9 (F := Ideal) C A B P (ix3 0 r x)
      = kerHead (fun x => P (ix2 r ⟨128 + x.val, by omega⟩)) (fun x => C (ix2 r x)) (fun x => A (ix2 r x)) (fun x => B (ix2 r x)) x
        * (((8 * Real.log 2)⁻¹ : ℝ) : EReal) := by
  unfold kerHead
  refine Eq.trans ?_ (congrArg (_ * ·) named_eq)
  pointwise [k0_pay9]

/-- The third head of the queries. -/
theorem pay11_apply (C A B : Vec Ideal S1024x128 .f32) (P : Vec Ideal S1024x512 .f32) (r : Fin 1024) (x : Fin 128) :
    k0_pay11 (F := Ideal) (k0_pay10 (F := Ideal) C A B P) (ix3 0 r x)
      = kerHead (fun x => P (ix2 r ⟨256 + x.val, by omega⟩)) (fun x => C (ix2 r x)) (fun x => A (ix2 r x)) (fun x => B (ix2 r x)) x
        * (((8 * Real.log 2)⁻¹ : ℝ) : EReal) := by
  unfold kerHead
  refine Eq.trans ?_ (congrArg (_ * ·) named_eq)
  pointwise [k0_pay11, k0_pay10]

/-- The fourth head of the queries. -/
theorem pay12_apply (C A B : Vec Ideal S1024x128 .f32) (P : Vec Ideal S1024x512 .f32) (r : Fin 1024) (x : Fin 128) :
    k0_pay12 (F := Ideal) C A B P (ix3 0 r x)
      = kerHead (fun x => P (ix2 r ⟨384 + x.val, by omega⟩)) (fun x => C (ix2 r x)) (fun x => A (ix2 r x)) (fun x => B (ix2 r x)) x
        * (((8 * Real.log 2)⁻¹ : ℝ) : EReal) := by
  unfold kerHead
  refine Eq.trans ?_ (congrArg (_ * ·) named_eq)
  pointwise [k0_pay12]

/-- The third head of the keys. -/
theorem pay17_apply (C A B : Vec Ideal S1024x128 .f32) (P : Vec Ideal S1024x512 .f32) (r : Fin 1024) (x : Fin 128) :
    k0_pay17 (F := Ideal) C A B P (ix3 0 r x)
      = kerHead (fun x => P (ix2 r ⟨256 + x.val, by omega⟩)) (fun x => C (ix2 r x)) (fun x => A (ix2 r x)) (fun x => B (ix2 r x)) x := by
  unfold kerHead
  pointwise [k0_pay17]

/-- The fourth head of the keys. -/
theorem pay18_apply (C A B : Vec Ideal S1024x128 .f32) (P : Vec Ideal S1024x512 .f32) (r : Fin 1024) (x : Fin 128) :
    k0_pay18 (F := Ideal) C A B P (ix3 0 r x)
      = kerHead (fun x => P (ix2 r ⟨384 + x.val, by omega⟩)) (fun x => C (ix2 r x)) (fun x => A (ix2 r x)) (fun x => B (ix2 r x)) x := by
  unfold kerHead
  pointwise [k0_pay18]

/-- The first head of the keys. -/
theorem pay14_apply (C A B : Vec Ideal S1024x128 .f32) (N : Vec Ideal S1024x1024 .bf16) (w : Vec Ideal S1024x512 .bf16) (r : Fin 1024) (x : Fin 128) :
    k0_pay14 (F := Ideal) N C A B w (ix3 0 r x)
      = kerHead (fun x => k0_pay13 (F := Ideal) N w (ix2 r ⟨0 + x.val, by omega⟩)) (fun x => C (ix2 r x)) (fun x => A (ix2 r x)) (fun x => B (ix2 r x)) x := by
  unfold kerHead k0_pay14
  generalize k0_pay13 (F := Ideal) N w = P
  pointwise

/-- The second head of the keys. -/
theorem pay16_apply (C A B : Vec Ideal S1024x128 .f32) (N : Vec Ideal S1024x1024 .bf16) (w : Vec Ideal S1024x512 .bf16) (r : Fin 1024) (x : Fin 128) :
    k0_pay16 (F := Ideal) (k0_pay15 (F := Ideal) N C A B w) (ix3 0 r x)
      = kerHead (fun x => k0_pay13 (F := Ideal) N w (ix2 r ⟨128 + x.val, by omega⟩)) (fun x => C (ix2 r x)) (fun x => A (ix2 r x)) (fun x => B (ix2 r x)) x := by
  unfold kerHead k0_pay16 k0_pay15
  generalize k0_pay13 (F := Ideal) N w = P
  pointwise

/-- The queries before the rotation, a dot product. -/
theorem pay6_apply (v0 : Vec Ideal S1x6x1024 .f32) (v2 : Vec Ideal S1x1024x1024 .f32) (v4 : Vec Ideal S1x1024 .f32) (w : Vec Ideal S1024x512 .bf16)
    (r : Fin 1024) (l : Fin 512) :
    k0_pay6 v0 v2 v4 w (ix2 r l) = (∑ d : Fin 1024, k0_pay2 v0 v2 v4 (ix2 r d) * w (ix2 d l) : EReal) := by
  pointwise [k0_pay6]

/-- The first head of the queries before the rotation. -/
theorem pay7_apply (v0 : Vec Ideal S1x6x1024 .f32) (v2 : Vec Ideal S1x1024x1024 .f32) (v4 : Vec Ideal S1x1024 .f32) (w : Vec Ideal S1024x512 .bf16)
    (r : Fin 1024) (x : Fin 128) :
    k0_pay7 v0 v2 v4 w (ix2 r x) = k0_pay6 v0 v2 v4 w (ix2 r ⟨0 + x.val, by omega⟩) := by
  unfold k0_pay7
  generalize k0_pay6 v0 v2 v4 w = P
  pointwise

/-- The keys before the rotation, a dot product. -/
theorem pay13_apply (N : Vec Ideal S1024x1024 .bf16) (w : Vec Ideal S1024x512 .bf16) (r : Fin 1024) (l : Fin 512) :
    k0_pay13 (F := Ideal) N w (ix2 r l) = (∑ d : Fin 1024, N (ix2 r d) * w (ix2 d l) : EReal) := by
  pointwise [k0_pay13]

/-- The values, a dot product. -/
theorem pay19_apply (N : Vec Ideal S1024x1024 .bf16) (w : Vec Ideal S1024x512 .bf16) (r : Fin 1024) (l : Fin 512) :
    k0_pay19 (F := Ideal) N w (ix3 0 r l) = (∑ d : Fin 1024, N (ix2 r d) * w (ix2 d l) : EReal) := by
  pointwise [k0_pay19]

/-- The Fourier columns, a dot product. -/
theorem pay1_apply (N : Vec Ideal S1024x1024 .bf16) (w : Vec Ideal S1024x512 .bf16) (r : Fin 1024) (l : Fin 512) :
    k0_pay1 (F := Ideal) N (k0_pay20 (F := Ideal) w) (constant S1024x512 .f32 0x00000000#32) (ix3 0 r l) = (∑ d : Fin 1024, N (ix2 r d) * w (ix2 d l) : EReal) := by
  pointwise [k0_pay1, k0_pay20]

end Cert.Input

end
-- ==== Proof.InputOuts.lean ====
/- One block of the input projection's four results, from the input blocks. -/
module

public import proofs.«01_k».proof.Proof.InputBody

@[expose] public section

set_option maxRecDepth 16384

noncomputable section

open Idealize.ShloMosaic Idealize.ShloMosaic.Pointwise

namespace Cert.Input

open Cert.Norm Cert.Rope Cert.Kernel2Ideal Cert.Kernel2Ideal.Gen Idealize.ShloMosaic.TcCoe Idealize.SL.Sem

variable (x0 : Vec Ideal S1x1024x1024 .f32) (x1 : Vec Ideal S1x6x1024 .f32) (x2 : Vec Ideal S1x1024 .f32) (x3 : Vec Ideal S1024x2048 .bf16)
  (x4 x5 x6 : Vec Ideal S1024x128 .f32)

/-- Column `l` of a block's projection. -/
def blockProj (r : Fin 1024) (l : ℕ) : EReal :=
  if h : l < 2048 then
    proj (fun d => x0 (ix3 0 r d)) (fun d => x2 (ix2 0 d)) (fun d => x1 (ix3 0 1 d)) (fun d => x1 (ix3 0 0 d)) (fun d => x3 (ix2 d ⟨l, h⟩))
  else 0

/-- Column `l` of a block's rotated head, of the columns that begin at `o`. -/
def blockRope (o : ℕ) (r : Fin 1024) (l : ℕ) : EReal :=
  kerHead (fun x => blockProj x0 x1 x2 x3 r (o + l / 128 * 128 + x.val)) (fun x => x4 (ix2 r x)) (fun x => x5 (ix2 r x)) (fun x => x6 (ix2 r x)) ⟨l % 128, by omega⟩

/-- A load of a whole table. -/
theorem ld_table (x : Vec Ideal S1024x128 .f32) : View.ld x r0_3 = x :=
  funext fun i => congrArg x (funext fun a => Fin.ext (by
    fin_cases a
    · show 0 + 1 * (i 0).val = (i 0).val; omega
    · show 0 + 1 * (i 1).val = (i 1).val; omega))

/-- The normalised rows, from the input blocks. -/
theorem pay21_eq : k0_pay21 (F := Ideal) x0 x1 x2 x3 x4 x5 x6 = k0_pay2 x1 x0 x2 := by
  unfold k0_pay21
  have e0 : View.ld x0 r0_1 = x0 := funext fun i => congrArg x0 (funext fun a => Fin.ext (by
    fin_cases a
    · show 0 + 1 * (i 0).val = (i 0).val; omega
    · show 0 + 1 * (i 1).val = (i 1).val; omega
    · show 0 + 1 * (i 2).val = (i 2).val; omega))
  have e1 : View.ld x1 r0_0 = x1 := funext fun i => congrArg x1 (funext fun a => Fin.ext (by
    fin_cases a
    · show 0 + 1 * (i 0).val = (i 0).val; omega
    · show 0 + 1 * (i 1).val = (i 1).val; omega
    · show 0 + 1 * (i 2).val = (i 2).val; omega))
  have e2 : View.ld x2 r0_2 = x2 := funext fun i => congrArg x2 (funext fun a => Fin.ext (by
    fin_cases a
    · show 0 + 1 * (i 0).val = (i 0).val; omega
    · show 0 + 1 * (i 1).val = (i 1).val; omega))
  rw [e0, e1, e2]

/-- The three tables, from the input blocks. -/
theorem table_eq : k0_pay22 (F := Ideal) x0 x1 x2 x3 x4 x5 x6 = x4 ∧ k0_pay23 (F := Ideal) x0 x1 x2 x3 x4 x5 x6 = x5
    ∧ k0_pay24 (F := Ideal) x0 x1 x2 x3 x4 x5 x6 = x6 := by
  have e3 : ∀ x : Vec Ideal S1024x128 .f32, k0_pay3 (F := Ideal) x = x := fun x => by
    funext i
    obtain ⟨r, l, rfl⟩ : ∃ r l, i = ix2 r l := ⟨i 0, i 1, by funext a; fin_cases a <;> rfl⟩
    pointwise [k0_pay3]
  unfold k0_pay22 k0_pay23 k0_pay24
  rw [ld_table, ld_table, ld_table]
  exact ⟨e3 x4, e3 x5, e3 x6⟩

/-- A dot product of a normalised row with a column of the weights. -/
theorem dot_block (o : ℕ) (w : Vec Ideal S1024x512 .bf16) (ho : o + 512 ≤ 2048)
    (hw : ∀ (d : Fin 1024) (l : Fin 512), w (ix2 d l) = x3 (ix2 d ⟨o + l.val, by omega⟩)) (r : Fin 1024) (l : Fin 512) :
    (∑ d : Fin 1024, k0_pay2 x1 x0 x2 (ix2 r d) * w (ix2 d l) : EReal) = blockProj x0 x1 x2 x3 r (o + l.val) := by
  unfold blockProj
  rw [dif_pos (show o + l.val < 2048 by omega)]
  exact Finset.sum_congr rfl fun d _ => congrArg₂ (fun a b : EReal => a * b) (pay2_apply x1 x0 x2 r d) (hw d l)

/-- A load of the weights' columns from 0. -/
theorem ld_queries (d : Fin 1024) (l : Fin 512) : View.ld x3 r0_4 (ix2 d l) = x3 (ix2 d ⟨0 + l.val, by omega⟩) :=
  congrArg x3 (funext fun a => Fin.ext (by
    fin_cases a
    · show 0 + 1 * d.val = d.val; omega
    · show 0 + 1 * l.val = 0 + l.val; omega))

/-- A load of the weights' columns from 512. -/
theorem ld_keys (d : Fin 1024) (l : Fin 512) : View.ld x3 r0_9 (ix2 d l) = x3 (ix2 d ⟨512 + l.val, by omega⟩) :=
  congrArg x3 (funext fun a => Fin.ext (by
    fin_cases a
    · show 0 + 1 * d.val = d.val; omega
    · show 512 + 1 * l.val = 512 + l.val; omega))

/-- A load of the weights' columns from 1024. -/
theorem ld_values (d : Fin 1024) (l : Fin 512) : View.ld x3 r0_10 (ix2 d l) = x3 (ix2 d ⟨1024 + l.val, by omega⟩) :=
  congrArg x3 (funext fun a => Fin.ext (by
    fin_cases a
    · show 0 + 1 * d.val = d.val; omega
    · show 1024 + 1 * l.val = 1024 + l.val; omega))

/-- A load of the weights' columns from 1536. -/
theorem ld_fourier (d : Fin 1024) (l : Fin 512) : View.ld x3 r0_12 (ix2 d l) = x3 (ix2 d ⟨1536 + l.val, by omega⟩) :=
  congrArg x3 (funext fun a => Fin.ext (by
    fin_cases a
    · show 0 + 1 * d.val = d.val; omega
    · show 1536 + 1 * l.val = 1536 + l.val; omega))

/-- The queries before the rotation. -/
theorem pay25_block (r : Fin 1024) (l : Fin 512) : k0_pay25 (F := Ideal) x0 x1 x2 x3 x4 x5 x6 (ix2 r l) = blockProj x0 x1 x2 x3 r (0 + l.val) := by
  have e : k0_pay25 (F := Ideal) x0 x1 x2 x3 x4 x5 x6 (ix2 r l) = (∑ d : Fin 1024, k0_pay21 (F := Ideal) x0 x1 x2 x3 x4 x5 x6 (ix2 r d) * View.ld x3 r0_4 (ix2 d l) : EReal) :=
    pay6_apply _ _ _ _ _ _
  rw [e, pay21_eq]
  exact dot_block x0 x1 x2 x3 0 _ (by decide) (ld_queries x3) r l

/-- The keys before the rotation. -/
theorem pay13_block (r : Fin 1024) (l : Fin 512) :
    k0_pay13 (F := Ideal) (k0_pay21 (F := Ideal) x0 x1 x2 x3 x4 x5 x6) (View.ld x3 r0_9) (ix2 r l) = blockProj x0 x1 x2 x3 r (512 + l.val) := by
  rw [pay21_eq]
  exact (pay13_apply _ _ _ _).trans (dot_block x0 x1 x2 x3 512 _ (by decide) (ld_keys x3) r l)

/-- An index of a head's block, by its row and its lane. -/
theorem head_idx (x : S1x1024x128.Idx) : ∃ (r : Fin 1024) (l : Fin 128), x = ix3 0 r l :=
  ⟨x 1, x 2, by
    funext a
    fin_cases a
    · exact Fin.ext (by have : (x 0).val < 1 := (x 0).isLt; show (x 0).val = 0; omega)
    · rfl
    · rfl⟩

/-- A head's rotated lane is the rotated column it stands at. -/
theorem head_rope (o k : ℕ) (p : Fin 128 → EReal) (r : Fin 1024) (x : Fin 128) (r' : Fin 1024) (l : ℕ) (hr : r' = r) (hl : l = k * 128 + x.val)
    (hp : ∀ x : Fin 128, p x = blockProj x0 x1 x2 x3 r (o + (k * 128 + x.val))) :
    kerHead p (fun x => x4 (ix2 r x)) (fun x => x5 (ix2 r x)) (fun x => x6 (ix2 r x)) x = blockRope x0 x1 x2 x3 x4 x5 x6 o r' l := by
  subst hr hl
  unfold blockRope
  have e0 : (⟨(k * 128 + x.val) % 128, by omega⟩ : Fin 128) = x := Fin.ext (by show (k * 128 + x.val) % 128 = x.val; omega)
  have e1 : (k * 128 + x.val) / 128 * 128 = k * 128 := by omega
  rw [e0, e1]
  refine congrArg (fun p => kerHead p _ _ _ x) (funext fun y => (hp y).trans ?_)
  rw [Nat.add_assoc]

/-- A block of queries, from the input blocks. -/
theorem out7_apply (y : S1x1024x512.Idx) :
    out0_7 (F := Ideal) x0 x1 x2 x3 x4 x5 x6 y = blockRope x0 x1 x2 x3 x4 x5 x6 0 (y 1) (y 2).val * (((8 * Real.log 2)⁻¹ : ℝ) : EReal) := by
  unfold out0_7
  obtain ⟨h4, h5, h6⟩ := table_eq x0 x1 x2 x3 x4 x5 x6
  rw [h4, h5, h6]
  refine View.canon_apply_of_pieces (Val := Elt Ideal) (fun y => blockRope x0 x1 x2 x3 x4 x5 x6 0 (y 1) (y 2).val * (((8 * Real.log 2)⁻¹ : ℝ) : EReal) : Vec Ideal S1x1024x512 .bf16) _ ?_ y (cover0_7 _ _ _ _ y)
  intro pc hpc
  rcases List.mem_cons.mp hpc with rfl | hpc
  · intro x
    obtain ⟨r, l, rfl⟩ := head_idx x
    refine (pay12_apply _ _ _ _ r l).trans (congrArg (fun z : EReal => z * (((8 * Real.log 2)⁻¹ : ℝ) : EReal)) ?_)
    refine head_rope x0 x1 x2 x3 x4 x5 x6 0 3 _ r l _ _ (Fin.ext ?_) ?_ fun x => ?_
    · show 0 + 1 * r.val = r.val; omega
    · show 384 + 1 * l.val = 3 * 128 + l.val; omega
    · exact pay25_block x0 x1 x2 x3 x4 x5 x6 r _
  rcases List.mem_cons.mp hpc with rfl | hpc
  · intro x
    obtain ⟨r, l, rfl⟩ := head_idx x
    refine (pay11_apply _ _ _ _ r l).trans (congrArg (fun z : EReal => z * (((8 * Real.log 2)⁻¹ : ℝ) : EReal)) ?_)
    refine head_rope x0 x1 x2 x3 x4 x5 x6 0 2 _ r l _ _ (Fin.ext ?_) ?_ fun x => ?_
    · show 0 + 1 * r.val = r.val; omega
    · show 256 + 1 * l.val = 2 * 128 + l.val; omega
    · exact pay25_block x0 x1 x2 x3 x4 x5 x6 r _
  rcases List.mem_cons.mp hpc with rfl | hpc
  · intro x
    obtain ⟨r, l, rfl⟩ := head_idx x
    refine (pay9_apply _ _ _ _ r l).trans (congrArg (fun z : EReal => z * (((8 * Real.log 2)⁻¹ : ℝ) : EReal)) ?_)
    refine head_rope x0 x1 x2 x3 x4 x5 x6 0 1 _ r l _ _ (Fin.ext ?_) ?_ fun x => ?_
    · show 0 + 1 * r.val = r.val; omega
    · show 128 + 1 * l.val = 1 * 128 + l.val; omega
    · exact pay25_block x0 x1 x2 x3 x4 x5 x6 r _
  rcases List.mem_cons.mp hpc with rfl | hpc
  · intro x
    obtain ⟨r, l, rfl⟩ := head_idx x
    refine (pay8_apply _ _ _ _ r l).trans (congrArg (fun z : EReal => z * (((8 * Real.log 2)⁻¹ : ℝ) : EReal)) ?_)
    refine head_rope x0 x1 x2 x3 x4 x5 x6 0 0 _ r l _ _ (Fin.ext ?_) ?_ fun x => ?_
    · show 0 + 1 * r.val = r.val; omega
    · show 0 + 1 * l.val = 0 * 128 + l.val; omega
    · exact (pay7_apply _ _ _ _ r x).trans (pay25_block x0 x1 x2 x3 x4 x5 x6 r _)
  nomatch hpc

/-- A block of keys, from the input blocks. -/
theorem out8_apply (y : S1x1024x512.Idx) : out0_8 (F := Ideal) x0 x1 x2 x3 x4 x5 x6 y = blockRope x0 x1 x2 x3 x4 x5 x6 512 (y 1) (y 2).val := by
  unfold out0_8
  obtain ⟨h4, h5, h6⟩ := table_eq x0 x1 x2 x3 x4 x5 x6
  rw [h4, h5, h6]
  refine View.canon_apply_of_pieces (Val := Elt Ideal) (fun y => blockRope x0 x1 x2 x3 x4 x5 x6 512 (y 1) (y 2).val : Vec Ideal S1x1024x512 .bf16) _ ?_ y (cover0_8 _ _ _ _ y)
  intro pc hpc
  rcases List.mem_cons.mp hpc with rfl | hpc
  · intro x
    obtain ⟨r, l, rfl⟩ := head_idx x
    refine (pay18_apply _ _ _ _ r l).trans (?_)
    refine head_rope x0 x1 x2 x3 x4 x5 x6 512 3 _ r l _ _ (Fin.ext ?_) ?_ fun x => ?_
    · show 0 + 1 * r.val = r.val; omega
    · show 384 + 1 * l.val = 3 * 128 + l.val; omega
    · exact pay13_block x0 x1 x2 x3 x4 x5 x6 r _
  rcases List.mem_cons.mp hpc with rfl | hpc
  · intro x
    obtain ⟨r, l, rfl⟩ := head_idx x
    refine (pay17_apply _ _ _ _ r l).trans (?_)
    refine head_rope x0 x1 x2 x3 x4 x5 x6 512 2 _ r l _ _ (Fin.ext ?_) ?_ fun x => ?_
    · show 0 + 1 * r.val = r.val; omega
    · show 256 + 1 * l.val = 2 * 128 + l.val; omega
    · exact pay13_block x0 x1 x2 x3 x4 x5 x6 r _
  rcases List.mem_cons.mp hpc with rfl | hpc
  · intro x
    obtain ⟨r, l, rfl⟩ := head_idx x
    refine (pay16_apply _ _ _ _ _ r l).trans (?_)
    refine head_rope x0 x1 x2 x3 x4 x5 x6 512 1 _ r l _ _ (Fin.ext ?_) ?_ fun x => ?_
    · show 0 + 1 * r.val = r.val; omega
    · show 128 + 1 * l.val = 1 * 128 + l.val; omega
    · exact pay13_block x0 x1 x2 x3 x4 x5 x6 r _
  rcases List.mem_cons.mp hpc with rfl | hpc
  · intro x
    obtain ⟨r, l, rfl⟩ := head_idx x
    refine (pay14_apply _ _ _ _ _ r l).trans (?_)
    refine head_rope x0 x1 x2 x3 x4 x5 x6 512 0 _ r l _ _ (Fin.ext ?_) ?_ fun x => ?_
    · show 0 + 1 * r.val = r.val; omega
    · show 0 + 1 * l.val = 0 * 128 + l.val; omega
    · exact pay13_block x0 x1 x2 x3 x4 x5 x6 r _
  nomatch hpc

/-- A block of values, from the input blocks. -/
theorem out9_apply (r : Fin 1024) (l : Fin 512) : out0_9 (F := Ideal) x0 x1 x2 x3 x4 x5 x6 (ix3 0 r l) = blockProj x0 x1 x2 x3 r (1024 + l.val) := by
  frame_out
  rw [pay21_eq]
  exact (pay19_apply _ _ _ _).trans (dot_block x0 x1 x2 x3 1024 _ (by decide) (ld_values x3) r l)

/-- A block of Fourier columns, from the input blocks. -/
theorem out10_apply (r : Fin 1024) (l : Fin 512) : out0_10 (F := Ideal) x0 x1 x2 x3 x4 x5 x6 (ix3 0 r l) = blockProj x0 x1 x2 x3 r (1536 + l.val) := by
  frame_out
  rw [pay21_eq]
  exact (pay1_apply _ _ _ _).trans (dot_block x0 x1 x2 x3 1536 _ (by decide) (ld_fourier x3) r l)

end Cert.Input

end
-- ==== Proof.InputHost.lean ====
/- What the input projection's launch finds in its arrays: the tables of cosines and sines, the gain, the weights. -/
module

public import proofs.«01_k».proof.Proof.InputSpec

@[expose] public section

set_option maxRecDepth 16384

noncomputable section

open Idealize.ShloMosaic Idealize.ShloMosaic.Pointwise

namespace Cert.Input

open Cert.Norm Cert.Rope Cert.Kernel2Ideal Cert.Kernel2Ideal.Gen Idealize.ShloMosaic.TcCoe Idealize.SL.Sem

variable (m : (ℓ : Loc nD τ sig) → Buf (Elt Ideal) ℓ)

/-- The angles on the kernel's host. -/
theorem entry_angle (c : Dev nD) : V m c main_v25 = angle := rfl

/-- The cosines on the kernel's host. -/
theorem entry_cos (c : Dev nD) (n : Fin 8192) (x : Fin 128) : V m c main_v30 (ix2 n x) = Ideal.cos (angleAt n x.val) := by
  have e : V m c main_v30 = shapeCast S8192x128 (broadcastInDim S1x8192x2x64 ![0, 1, 2, 3] bcast_S1x8192x1x64_S1x8192x2x64_0_1_2_3
      (shapeCast S1x8192x1x64 (shapeCast S8192x64 (Host.cos (F := Ideal) (φ := .f32) angle) shapeCasts_S8192x2x32_S8192x64) shapeCasts_S8192x64_S1x8192x1x64))
      shapeCasts_S1x8192x2x64_S8192x128 := rfl
  rw [e]
  unfold angleAt
  generalize angle = A
  pointwise
  rw [show (⟨x.val % 64 % 32, by omega⟩ : Fin 32) = ⟨x.val % 32, by omega⟩ from Fin.ext (by show x.val % 64 % 32 = x.val % 32; omega)]

/-- A change of format of the reshaped weights. -/
theorem cast_w (W : FVec Ideal S1x1024x2048 .f32) (d : Fin 1024) (l : Fin 2048) :
    truncf (F := Ideal) .bf16 (shapeCast S1024x2048 W shapeCasts_S1x1024x2048_S1024x2048) bitsLt_bf16_f32 (ix2 d l) = W (ix3 0 d l) := by
  pointwise

/-- The gain reshaped and back. -/
theorem cast_g (G : FVec Ideal S1x1024 .f32) (d : Fin 1024) :
    shapeCast S1x1024 (shapeCast S1024 G shapeCasts_S1x1024_S1024) shapeCasts_S1024_S1x1024 (ix2 0 d) = G (ix2 0 d) := by
  pointwise

/-- A selection between a table's row and a constant. -/
theorem select_lane (T : FVec Ideal S8192x128 .f32) (n : Fin 8192) (x : Fin 128) :
    select (broadcastInDim S8192x128 ![1] bcast_S128_S8192x128_1 (fun i => lit0 (S128.rowMajor i))) T
      (broadcastInDim S8192x128 ![] bcast_S_S8192x128 (constant (F := Ideal) S_ .f32 0x00000000#32)) (ix2 n x)
    = Scalar.select (lit0 x) (T (ix2 n x)) (Ideal.ofBits .f32 0x00000000#32) := by
  simp only [pointwise]
  have e : ∀ j : S128.Idx, S128.rowMajor j = j 0 := fun j => Fin.ext (Shape.rowMajor_val_one j)
  rw [e]
  rfl

/-- A selection between a constant and a table's row. -/
theorem select_lane' (T : FVec Ideal S8192x128 .f32) (n : Fin 8192) (x : Fin 128) :
    select (broadcastInDim S8192x128 ![1] bcast_S128_S8192x128_1 (fun i => lit0 (S128.rowMajor i)))
      (broadcastInDim S8192x128 ![] bcast_S_S8192x128 (constant (F := Ideal) S_ .f32 0x00000000#32)) T (ix2 n x)
    = Scalar.select (lit0 x) (Ideal.ofBits .f32 0x00000000#32) (T (ix2 n x)) := by
  simp only [pointwise]
  have e : ∀ j : S128.Idx, S128.rowMajor j = j 0 := fun j => Fin.ext (Shape.rowMajor_val_one j)
  rw [e]
  rfl

/-- The sines on the kernel's host, before the two selections. -/
def sines : FVec Ideal S8192x128 .f32 := shapeCast S8192x128 (broadcastInDim S1x8192x2x64 ![0, 1, 2, 3] bcast_S1x8192x1x64_S1x8192x2x64_0_1_2_3
      (shapeCast S1x8192x1x64 (shapeCast S8192x64 (Host.sin (F := Ideal) (φ := .f32) angle) shapeCasts_S8192x2x32_S8192x64) shapeCasts_S8192x64_S1x8192x1x64))
      shapeCasts_S1x8192x2x64_S8192x128

/-- The sines, read at a lane. -/
theorem sines_apply (n : Fin 8192) (x : Fin 128) : sines (ix2 n x) = Ideal.sin (angleAt n x.val) := by
  unfold sines angleAt
  generalize angle = A
  pointwise
  rw [show (⟨x.val % 64 % 32, by omega⟩ : Fin 32) = ⟨x.val % 32, by omega⟩ from Fin.ext (by show x.val % 64 % 32 = x.val % 32; omega)]

/-- The word of zeros is zero. -/
theorem zero_word : Ideal.ofBits .f32 0x00000000#32 = 0 := by simp [Ideal.ofBits, Ideal.ieee]

/-- Which lanes are in the upper half of their group of 32. -/
theorem lit_eq : ∀ x : Fin 128, lit0 x = if x.val % 32 < 16 then 0#1 else 1#1 := by decide

/-- The first table of sines. -/
theorem entry_sa (c : Dev nD) (n : Fin 8192) (x : Fin 128) : V m c main_v36 (ix2 n x) = if x.val % 32 < 16 then 0 else Ideal.sin (angleAt n x.val) := by
  have e : V m c main_v36 = select (broadcastInDim S8192x128 ![1] bcast_S128_S8192x128_1 (fun i => lit0 (S128.rowMajor i))) sines
      (broadcastInDim S8192x128 ![] bcast_S_S8192x128 (constant (F := Ideal) S_ .f32 0x00000000#32)) := rfl
  rw [e, select_lane, lit_eq, zero_word]
  by_cases h : x.val % 32 < 16
  · simp [h, Scalar.select]
  · simpa [h, Scalar.select] using sines_apply n x

/-- The second table of sines. -/
theorem entry_sb (c : Dev nD) (n : Fin 8192) (x : Fin 128) : V m c main_v38 (ix2 n x) = if x.val % 32 < 16 then -Ideal.sin (angleAt n x.val) else 0 := by
  have e : V m c main_v38 = select (broadcastInDim S8192x128 ![1] bcast_S128_S8192x128_1 (fun i => lit0 (S128.rowMajor i)))
      (broadcastInDim S8192x128 ![] bcast_S_S8192x128 (constant (F := Ideal) S_ .f32 0x00000000#32)) (Host.negf (F := Ideal) (φ := .f32) sines) := rfl
  rw [e, select_lane', lit_eq, zero_word]
  have hs : Host.negf (F := Ideal) (φ := .f32) sines (ix2 n x) = -Ideal.sin (angleAt n x.val) := congrArg (fun z : EReal => -z) (sines_apply n x)
  by_cases h : x.val % 32 < 16
  · simpa [h, Scalar.select] using hs
  · simp [h, Scalar.select]

/-- The gain as the launch finds it. -/
theorem entry_g (c : Dev nD) (d : Fin 1024) : V m c main_v40 (ix2 0 d) = m ((c : Thread nD τ).loc main_arg2) (ix2 0 d) := by
  exact cast_g _ d

/-- The weights as the launch finds them, a change of format. -/
theorem entry_w (c : Dev nD) (d : Fin 1024) (l : Fin 2048) : V m c main_v42 (ix2 d l) = m ((c : Thread nD τ).loc main_arg3) (ix3 0 d l) := by
  exact cast_w _ d l

end Cert.Input

end
-- ==== Proof.Input.lean ====
/- The input projection's arrays: the kernel's four results as functions of the arguments. -/
module

public import proofs.«01_k».proof.Proof.InputOuts
public import proofs.«01_k».proof.Proof.InputHost

@[expose] public section

set_option maxRecDepth 16384

noncomputable section

open Idealize.ShloMosaic Idealize.ShloMosaic.Pointwise

namespace Cert.Input

open Cert.Norm Cert.Rope Cert.Kernel2Ideal Cert.Kernel2Ideal.Gen Idealize.ShloMosaic.TcCoe Idealize.SL.Sem

/-- Every window's block index at a grid point. -/
theorem idx : ∀ t : Fin cfg0.N, win0_7.index t 0 < 2 ∧ win0_7.index t 1 < 8 ∧ win0_7.index t 2 = 0
    ∧ win0_8.index t = ![win0_7.index t 0, win0_7.index t 1, 0] ∧ win0_9.index t = ![win0_7.index t 0, win0_7.index t 1, 0]
    ∧ win0_10.index t = ![win0_7.index t 0, win0_7.index t 1, 0]
    ∧ win0_0.index t = ![win0_7.index t 0, win0_7.index t 1, 0] ∧ win0_1.index t = ![win0_7.index t 0, 0, 0]
    ∧ win0_2.index t = ![0, 0] ∧ win0_3.index t = ![0, 0] ∧ win0_4.index t = ![win0_7.index t 1, 0] ∧ win0_5.index t = ![win0_7.index t 1, 0]
    ∧ win0_6.index t = ![win0_7.index t 1, 0] :=
  (by decide +kernel : ∀ t : Fin grid0.N, _)

/-- The batch of a grid point. -/
def batchOf (t : Fin cfg0.N) : Fin 2 := ⟨win0_7.index t 0, (idx t).1⟩

/-- The array row of a grid point's row. -/
def rowOf (t : Fin cfg0.N) (r : Fin 1024) : Fin 8192 := ⟨win0_7.index t 1 * 1024 + r.val, by have := (idx t).2.1; omega⟩

variable (m : (ℓ : Loc nD τ sig) → Buf (Elt Ideal) ℓ)

/-- The rows, an argument. -/
def rows (c : Dev nD) : FVec Ideal S2x8192x1024 .f32 := m ((c : Thread nD τ).loc main_arg0)
/-- The modulation vectors, an argument. -/
def mods (c : Dev nD) : FVec Ideal S8x6x1024 .f32 := m ((c : Thread nD τ).loc main_arg1)
/-- The gain, an argument. -/
def gain (c : Dev nD) : FVec Ideal S1x1024 .f32 := m ((c : Thread nD τ).loc main_arg2)
/-- The weights, an argument. -/
def weights (c : Dev nD) : FVec Ideal S1x1024x2048 .f32 := m ((c : Thread nD τ).loc main_arg3)

/-- A block of the rows. -/
theorem block_x (c : Dev nD) (t : Fin cfg0.N) (r : Fin 1024) (d : Fin 1024) : iblk m c 0 t (ix3 0 r d) = rows m c (ix3 (batchOf t) (rowOf t r) d) := by
  unfold rows
  blk_ext! [iblk, idx t, batchOf, rowOf]

/-- The block of modulation vectors. -/
theorem block_m (c : Dev nD) (t : Fin cfg0.N) (a : Fin 6) (d : Fin 1024) :
    iblk m c 1 t (ix3 0 a d) = mods m c (ix3 ⟨(batchOf t).val, by omega⟩ a d) := by
  unfold mods
  blk_ext! [iblk, idx t, batchOf]

/-- The block of the gain. -/
theorem block_g (c : Dev nD) (t : Fin cfg0.N) (d : Fin 1024) : iblk m c 2 t (ix2 0 d) = gain m c (ix2 0 d) := by
  refine Eq.trans ?_ (entry_g m c d)
  blk_ext! [iblk, idx t]

/-- The block of the weights. -/
theorem block_w (c : Dev nD) (t : Fin cfg0.N) (d : Fin 1024) (l : Fin 2048) : iblk m c 3 t (ix2 d l) = weights m c (ix3 0 d l) := by
  refine Eq.trans ?_ (entry_w m c d l)
  blk_ext! [iblk, idx t]

/-- The block of cosines. -/
theorem block_cos (c : Dev nD) (t : Fin cfg0.N) (r : Fin 1024) (x : Fin 128) : iblk m c 4 t (ix2 r x) = Ideal.cos (angleAt (rowOf t r) x.val) := by
  refine Eq.trans ?_ (entry_cos m c (rowOf t r) x)
  blk_ext! [iblk, idx t, rowOf]

/-- The first block of sines. -/
theorem block_sa (c : Dev nD) (t : Fin cfg0.N) (r : Fin 1024) (x : Fin 128) :
    iblk m c 5 t (ix2 r x) = if x.val % 32 < 16 then 0 else Ideal.sin (angleAt (rowOf t r) x.val) := by
  refine Eq.trans ?_ (entry_sa m c (rowOf t r) x)
  blk_ext! [iblk, idx t, rowOf]

/-- The second block of sines. -/
theorem block_sb (c : Dev nD) (t : Fin cfg0.N) (r : Fin 1024) (x : Fin 128) :
    iblk m c 6 t (ix2 r x) = if x.val % 32 < 16 then -Ideal.sin (angleAt (rowOf t r) x.val) else 0 := by
  refine Eq.trans ?_ (entry_sb m c (rowOf t r) x)
  blk_ext! [iblk, idx t, rowOf]

/-- A block's column of the projection. -/
theorem proj_block (c : Dev nD) (t : Fin cfg0.N) (r : Fin 1024) (l : ℕ) :
    blockProj (iblk m c 0 t) (iblk m c 1 t) (iblk m c 2 t) (iblk m c 3 t) r l
      = inProj (rows m c) (mods m c) (gain m c) (weights m c) (batchOf t) (rowOf t r) l := by
  unfold blockProj inProj
  simp only [block_x, block_m, block_g, block_w]

/-- The angle depends on the lane within 64 only. -/
theorem angleAt_congr (n : Fin 8192) (l l' : ℕ) (h : l % 64 = l' % 64) : angleAt n l = angleAt n l' := by
  unfold angleAt
  have e1 : (⟨l % 64 / 32, by omega⟩ : Fin 2) = ⟨l' % 64 / 32, by omega⟩ := Fin.ext (by show l % 64 / 32 = l' % 64 / 32; omega)
  have e2 : (⟨l % 32, by omega⟩ : Fin 32) = ⟨l' % 32, by omega⟩ := Fin.ext (by show l % 32 = l' % 32; omega)
  rw [e1, e2]

/-- A block's rotated column. -/
theorem rope_block (c : Dev nD) (t : Fin cfg0.N) (o : ℕ) (ho : o % 64 = 0) (r : Fin 1024) (l : ℕ) :
    blockRope (iblk m c 0 t) (iblk m c 1 t) (iblk m c 2 t) (iblk m c 3 t) (iblk m c 4 t) (iblk m c 5 t) (iblk m c 6 t) o r l
      = ropeProj (rows m c) (mods m c) (gain m c) (weights m c) (batchOf t) (rowOf t r) (o + l) := by
  unfold blockRope kerHead ropeProj
  simp only [proj_block, block_cos, block_sa, block_sb]
  have e0 : o + l / 128 * 128 + l % 128 = o + l := by omega
  rw [e0, angleAt_congr (rowOf t r) (l % 128) (o + l) (by omega), show l % 128 % 32 = (o + l) % 32 by omega]
  refine rope_eq _ _ _ _ _ _ (fun h => ?_) fun h => ?_
  · exact congrArg _ (by omega)
  · exact congrArg _ (by omega)

/-- An index of a block, by its row and its column. -/
theorem block_idx (y : S1x1024x512.Idx) : y = ix3 0 ⟨(y 1).val, (y 1).isLt⟩ ⟨(y 2).val, (y 2).isLt⟩ := by
  funext a
  fin_cases a
  · exact Fin.ext (by have : (y 0).val < 1 := (y 0).isLt; show (y 0).val = 0; omega)
  · rfl
  · rfl

/-- Column `l` of the scaled queries. -/
def queryProj (X : FVec Ideal S2x8192x1024 .f32) (M : FVec Ideal S8x6x1024 .f32) (G : FVec Ideal S1x1024 .f32) (W : FVec Ideal S1x1024x2048 .f32)
    (b : Fin 2) (n : Fin 8192) (l : ℕ) : EReal :=
  ropeProj X M G W b n l * (((8 * Real.log 2)⁻¹ : ℝ) : EReal)

/-- A block's scaled query. -/
theorem query_block (c : Dev nD) (t : Fin cfg0.N) (y : S1x1024x512.Idx) :
    out0_7 (F := Ideal) (iblk m c 0 t) (iblk m c 1 t) (iblk m c 2 t) (iblk m c 3 t) (iblk m c 4 t) (iblk m c 5 t) (iblk m c 6 t) y
      = queryProj (rows m c) (mods m c) (gain m c) (weights m c) (batchOf t) (rowOf t ⟨(y 1).val, (y 1).isLt⟩) (y 2).val := by
  have h : blockRope (iblk m c 0 t) (iblk m c 1 t) (iblk m c 2 t) (iblk m c 3 t) (iblk m c 4 t) (iblk m c 5 t) (iblk m c 6 t) 0 ⟨(y 1).val, (y 1).isLt⟩ (y 2).val
      = ropeProj (rows m c) (mods m c) (gain m c) (weights m c) (batchOf t) (rowOf t ⟨(y 1).val, (y 1).isLt⟩) (y 2).val :=
    (rope_block m c t 0 (by decide) _ _).trans (congrArg _ (Nat.zero_add _))
  unfold queryProj
  exact (out7_apply _ _ _ _ _ _ _ y).trans (congrArg (fun z : EReal => z * (((8 * Real.log 2)⁻¹ : ℝ) : EReal)) h)

/-- The kernel's array of queries. -/
theorem final7 (c : Dev nD) : (dats m 0 c).arrAt 7 cfg0.N = fun i =>
    queryProj (rows m c) (mods m c) (gain m c) (weights m c) (i 0) (i 1) (i 2).val := by
  refine (dats m 0 c).arrAt_eq_of_covers 7 _ (by decide +kernel) fun t hf y => ?_
  blk_simp
  rw [after0_7]
  have e0 : batchOf t = (win0_7.blk t).view.emb y 0 := Fin.ext (by blk_simp [batchOf, idx t])
  have e1 : rowOf t ⟨(y 1).val, (y 1).isLt⟩ = (win0_7.blk t).view.emb y 1 := Fin.ext (by blk_simp [rowOf, idx t])
  have e2 : win0_7.index t 2 = 0 := (idx t).2.2.1
  refine (query_block m c t y).trans ?_
  rw [← e0, ← e1]
  refine congrArg (queryProj _ _ _ _ _ _) ?_
  show (y 2).val = win0_7.index t 2 * 512 + (y 2).val
  omega

/-- The kernel's array of keys. -/
theorem final8 (c : Dev nD) : (dats m 0 c).arrAt 8 cfg0.N = fun i =>
    ropeProj (rows m c) (mods m c) (gain m c) (weights m c) (i 0) (i 1) (512 + (i 2).val) := by
  refine (dats m 0 c).arrAt_eq_of_covers 8 _ (by decide +kernel) fun t hf y => ?_
  blk_simp
  rw [after0_8]
  have e0 : batchOf t = (win0_8.blk t).view.emb y 0 := Fin.ext (by blk_simp [batchOf, idx t])
  have e1 : rowOf t ⟨(y 1).val, (y 1).isLt⟩ = (win0_8.blk t).view.emb y 1 := Fin.ext (by blk_simp [rowOf, idx t])
  have e2 : win0_8.index t 2 = 0 := congrFun (idx t).2.2.2.1 2
  refine (out8_apply _ _ _ _ _ _ _ y).trans ((rope_block m c t 512 (by decide) _ _).trans ?_)
  rw [← e0, ← e1]
  refine congrArg (ropeProj _ _ _ _ _ _) ?_
  show 512 + (y 2).val = 512 + (win0_8.index t 2 * 512 + (y 2).val)
  omega

/-- The kernel's array of values. -/
theorem final9 (c : Dev nD) : (dats m 0 c).arrAt 9 cfg0.N = fun i =>
    inProj (rows m c) (mods m c) (gain m c) (weights m c) (i 0) (i 1) (1024 + (i 2).val) := by
  refine (dats m 0 c).arrAt_eq_of_covers 9 _ (by decide +kernel) fun t hf y => ?_
  blk_simp
  rw [after0_9]
  have e0 : batchOf t = (win0_9.blk t).view.emb y 0 := Fin.ext (by blk_simp [batchOf, idx t])
  have e1 : rowOf t ⟨(y 1).val, (y 1).isLt⟩ = (win0_9.blk t).view.emb y 1 := Fin.ext (by blk_simp [rowOf, idx t])
  have e2 : win0_9.index t 2 = 0 := congrFun (idx t).2.2.2.2.1 2
  refine (congrArg (out0_9 (F := Ideal) _ _ _ _ _ _ _) (block_idx y)).trans ((out9_apply _ _ _ _ _ _ _ _ _).trans ((proj_block m c t _ _).trans ?_))
  rw [← e0, ← e1]
  refine congrArg (inProj _ _ _ _ _ _) ?_
  show 1024 + (y 2).val = 1024 + (win0_9.index t 2 * 512 + (y 2).val)
  omega

/-- The kernel's array of Fourier columns. -/
theorem final10 (c : Dev nD) : (dats m 0 c).arrAt 10 cfg0.N = fun i =>
    inProj (rows m c) (mods m c) (gain m c) (weights m c) (i 0) (i 1) (1536 + (i 2).val) := by
  refine (dats m 0 c).arrAt_eq_of_covers 10 _ (by decide +kernel) fun t hf y => ?_
  blk_simp
  rw [after0_10]
  have e0 : batchOf t = (win0_10.blk t).view.emb y 0 := Fin.ext (by blk_simp [batchOf, idx t])
  have e1 : rowOf t ⟨(y 1).val, (y 1).isLt⟩ = (win0_10.blk t).view.emb y 1 := Fin.ext (by blk_simp [rowOf, idx t])
  have e2 : win0_10.index t 2 = 0 := congrFun (idx t).2.2.2.2.2.1 2
  refine (congrArg (out0_10 (F := Ideal) _ _ _ _ _ _ _) (block_idx y)).trans ((out10_apply _ _ _ _ _ _ _ _ _).trans ((proj_block m c t _ _).trans ?_))
  rw [← e0, ← e1]
  refine congrArg (inProj _ _ _ _ _ _) ?_
  show 1536 + (y 2).val = 1536 + (win0_10.index t 2 * 512 + (y 2).val)
  omega

end Cert.Input

end
-- ==== Proof.InputReads.lean ====
/- The input projection's reference, read column by column. -/
module

public import proofs.«01_k».proof.Proof.InputSpec

@[expose] public section

set_option maxRecDepth 16384

noncomputable section

open Idealize.ShloMosaic Idealize.ShloMosaic.Pointwise

namespace Cert.Input

open Cert.Norm Cert.Rope Cert.Reference2Ideal Cert.Reference2Ideal.Gen Cert.Reference2Ideal.Read

/-- The rotation of an array of queries or keys by tables of cosines and sines. -/
def rot (P : FVec Ideal S2x8192x512 .f32) (C S : FVec Ideal S8192x2x32 .f32) : FVec Ideal S2x8192x4x2x2x32 .f32 :=
  let q : FVec Ideal S2x8192x4x2x2x32 .f32 := shapeCast S2x8192x4x2x2x32 (shapeCast S2x8192x4x2x64 P shapeCasts_S2x8192x512_S2x8192x4x2x64) shapeCasts_S2x8192x4x2x64_S2x8192x4x2x2x32
  let lo : FVec Ideal S2x8192x4x2x2x16 .f32 := extractStridedSlice S2x8192x4x2x2x16 ![0, 0, 0, 0, 0, 0] q slices_S2x8192x4x2x2x32_S2x8192x4x2x2x16_0_0_0_0_0_0
  let hi : FVec Ideal S2x8192x4x2x2x16 .f32 := extractStridedSlice S2x8192x4x2x2x16 ![0, 0, 0, 0, 0, 16] q slices_S2x8192x4x2x2x32_S2x8192x4x2x2x16_0_0_0_0_0_16
  let h : FVec Ideal S2x8192x4x2x2x32 .f32 := concatenate S2x8192x4x2x2x32 5 [⟨S2x8192x4x2x2x16, Host.negf (F := Ideal) (φ := .f32) hi⟩, ⟨S2x8192x4x2x2x16, lo⟩] concatenates_S2x8192x4x2x2x16_S2x8192x4x2x2x16_S2x8192x4x2x2x32_d5
  let c : FVec Ideal S2x8192x4x2x2x32 .f32 := broadcastInDim S2x8192x4x2x2x32 ![0, 1, 2, 3, 4, 5] bcast_S1x8192x1x1x2x32_S2x8192x4x2x2x32_0_1_2_3_4_5 (broadcastInDim S1x8192x1x1x2x32 ![1, 4, 5] bcast_S8192x2x32_S1x8192x1x1x2x32_1_4_5 C)
  let s : FVec Ideal S2x8192x4x2x2x32 .f32 := broadcastInDim S2x8192x4x2x2x32 ![0, 1, 2, 3, 4, 5] bcast_S1x8192x1x1x2x32_S2x8192x4x2x2x32_0_1_2_3_4_5 (broadcastInDim S1x8192x1x1x2x32 ![1, 4, 5] bcast_S8192x2x32_S1x8192x1x1x2x32_1_4_5 S)
  addf (mulf q c) (mulf h s)

/-- The rotation read at a lane of an axis of a component of a head. -/
theorem rot_apply (P : FVec Ideal S2x8192x512 .f32) (C S : FVec Ideal S8192x2x32 .f32) (b : Fin 2) (n : Fin 8192) (h : Fin 4) (c a : Fin 2) (j : Fin 32) :
    rot P C S (ix6 b n h c a j) = P (ix3 b n ⟨h.val * 128 + c.val * 64 + a.val * 32 + j.val, by omega⟩) * C (ix3 n a j)
      + (if hj : j.val < 16 then -P (ix3 b n ⟨h.val * 128 + c.val * 64 + a.val * 32 + (16 + j.val), by omega⟩)
          else P (ix3 b n ⟨h.val * 128 + c.val * 64 + a.val * 32 + (j.val - 16), by omega⟩)) * S (ix3 n a j) := by
  pointwise [rot]

variable (x0 : FVec Ideal S2x8192x1024 .f32) (x1 : FVec Ideal S8x6x1024 .f32) (x2 : FVec Ideal S1x1024 .f32) (x3 : FVec Ideal S1x1024x2048 .f32)

/-- The rotated queries. -/
theorem v69_eq : val_main_v69 (F := Ideal) x0 x1 x2 x3 = rot (val_main_v56 (F := Ideal) x0 x1 x2 x3) (val_main_v26 (F := Ideal)) (val_main_v27 (F := Ideal)) := rfl

/-- The rotated keys. -/
theorem v84_eq : val_main_v84 (F := Ideal) x0 x1 x2 x3 = rot (val_main_v71 (F := Ideal) x0 x1 x2 x3) (val_main_v26 (F := Ideal)) (val_main_v27 (F := Ideal)) := rfl

/-- The normalised rows. -/
theorem modulated_apply (b : Fin 2) (n : Fin 8192) (d : Fin 1024) :
    val_main_v53 (F := Ideal) x0 x1 x2 (ix3 b n d)
      = modRow (fun d => x0 (ix3 b n d)) (fun d => x2 (ix2 0 d)) (fun d => x1 (ix3 ⟨b.val, by omega⟩ 1 d)) (fun d => x1 (ix3 ⟨b.val, by omega⟩ 0 d)) d := by
  unfold modRow
  pointwise [val_main_v53, val_main_v52, val_main_v51, val_main_v50, val_main_v49, val_main_v48, val_main_v47, val_main_v46, val_main_v45, val_main_v44,
    val_main_v43, val_main_v42, val_main_v41, val_main_v40, val_main_v39, val_main_v38, val_main_v37, val_main_v36, val_main_v35, val_main_v34, val_main_v33,
    val_main_v32, val_main_v31, val_main_v30, val_main_v29, val_main_v28, val_main_cst_3, val_main_cst_4, val_main_cst_5, val_main_cst_6]

/-- A column of the projection, a dot product. -/
theorem dot_apply (b : Fin 2) (n : Fin 8192) (l : Fin 2048) :
    val_main_v55 (F := Ideal) x0 x1 x2 x3 (ix3 b n l) = inProj x0 x1 x2 x3 b n l.val := by
  have hl : ∀ d, lidx_main_v55 (ix3 b n l) d = ix3 b n d := fun d => by funext a; fin_cases a <;> rfl
  have hr : ∀ d, ridx_main_v55 (ix3 b n l) d = ix2 d l := fun d => by funext a; fin_cases a <;> rfl
  have hw : ∀ d : Fin 1024, val_main_v54 (F := Ideal) x3 (ix2 d l) = x3 (ix3 0 d l) := fun d => by
    pointwise [val_main_v54]
  rw [val_main_v55_apply]
  simp only [hl, hr, modulated_apply, hw]
  unfold inProj
  rw [dif_pos l.isLt]
  rfl

/-- The reference's values. -/
theorem values_apply (i : S2x8192x512.Idx) :
    val_main_v96 (F := Ideal) x0 x1 x2 x3 i = inProj x0 x1 x2 x3 (i 0) (i 1) (1024 + (i 2).val) := by
  rw [val_main_v96_apply, val_main_v95_apply]
  have h2 : (i 2).val < 512 := (i 2).isLt
  have e : idx_main_v95 i = ix3 (i 0) (i 1) ⟨1024 + (i 2).val, by omega⟩ := by
    funext a
    fin_cases a <;> refine Fin.ext ?_ <;> simp
  exact (congrArg (val_main_v55 (F := Ideal) x0 x1 x2 x3) e).trans (dot_apply x0 x1 x2 x3 _ _ _)

/-- The reference's Fourier columns. -/
theorem fourier_apply (i : S2x8192x512.Idx) :
    val_main_v97 (F := Ideal) x0 x1 x2 x3 i = inProj x0 x1 x2 x3 (i 0) (i 1) (1536 + (i 2).val) := by
  rw [val_main_v97_apply]
  have h2 : (i 2).val < 512 := (i 2).isLt
  have e : idx_main_v97 i = ix3 (i 0) (i 1) ⟨1536 + (i 2).val, by omega⟩ := by
    funext a
    fin_cases a <;> refine Fin.ext ?_ <;> simp
  exact (congrArg (val_main_v55 (F := Ideal) x0 x1 x2 x3) e).trans (dot_apply x0 x1 x2 x3 _ _ _)

/-- A split into head, component, axis and lane undone. -/
theorem merged_apply (R : FVec Ideal S2x8192x4x2x2x32 .f32) (b : Fin 2) (n : Fin 8192) (l : Fin 512) :
    shapeCast S2x8192x4x2x64 R shapeCasts_S2x8192x4x2x2x32_S2x8192x4x2x64 (ix5 b n ⟨l.val / 128, by omega⟩ ⟨l.val % 128 / 64, by omega⟩ ⟨l.val % 64, by omega⟩)
      = R (ix6 b n ⟨l.val / 128, by omega⟩ ⟨l.val % 128 / 64, by omega⟩ ⟨l.val % 64 / 32, by omega⟩ ⟨l.val % 32, by omega⟩) := by
  pointwise
  rw [show (⟨l.val % 64 % 32, by omega⟩ : Fin 32) = ⟨l.val % 32, by omega⟩ from Fin.ext (by show l.val % 64 % 32 = l.val % 32; omega)]

/-- The columns of a batch's row rotated, of a slice of the projection that begins at a multiple of 64. -/
theorem rot_ropeProj (P : FVec Ideal S2x8192x512 .f32) (o : ℕ) (ho : o % 64 = 0) (b : Fin 2) (n : Fin 8192)
    (hP : ∀ l : Fin 512, P (ix3 b n l) = inProj x0 x1 x2 x3 b n (o + l.val)) (l : Fin 512) :
    rot P (val_main_v26 (F := Ideal)) (val_main_v27 (F := Ideal))
        (ix6 b n ⟨l.val / 128, by omega⟩ ⟨l.val % 128 / 64, by omega⟩ ⟨l.val % 64 / 32, by omega⟩ ⟨l.val % 32, by omega⟩)
      = ropeProj x0 x1 x2 x3 b n (o + l.val) := by
  have hl : l.val / 128 * 128 + l.val % 128 / 64 * 64 + l.val % 64 / 32 * 32 + l.val % 32 = l.val := by omega
  have hc : val_main_v26 (F := Ideal) (ix3 n ⟨l.val % 64 / 32, by omega⟩ ⟨l.val % 32, by omega⟩) = Ideal.cos (angleAt n (o + l.val)) := by
    rw [val_main_v26_apply]
    show Ideal.cos (angle _) = Ideal.cos (angle _)
    congr 3
    · exact Fin.ext (by show l.val % 64 / 32 = (o + l.val) % 64 / 32; omega)
    · exact Fin.ext (by show l.val % 32 = (o + l.val) % 32; omega)
  have hs : val_main_v27 (F := Ideal) (ix3 n ⟨l.val % 64 / 32, by omega⟩ ⟨l.val % 32, by omega⟩) = Ideal.sin (angleAt n (o + l.val)) := by
    rw [val_main_v27_apply]
    show Ideal.sin (angle _) = Ideal.sin (angle _)
    congr 3
    · exact Fin.ext (by show l.val % 64 / 32 = (o + l.val) % 64 / 32; omega)
    · exact Fin.ext (by show l.val % 32 = (o + l.val) % 32; omega)
  rw [rot_apply, hc, hs]
  simp only [hP]
  unfold ropeProj ropeOf
  have e0 : o + (l.val / 128 * 128 + l.val % 128 / 64 * 64 + l.val % 64 / 32 * 32 + l.val % 32) = o + l.val := by omega
  by_cases h : l.val % 32 < 16
  · have h' : (o + l.val) % 32 < 16 := by omega
    have e1 : o + (l.val / 128 * 128 + l.val % 128 / 64 * 64 + l.val % 64 / 32 * 32 + (16 + l.val % 32)) = o + l.val + 16 := by omega
    simp only [h, h', e0, e1, dite_true, if_true]
  · have h' : ¬ (o + l.val) % 32 < 16 := by omega
    have e1 : o + (l.val / 128 * 128 + l.val % 128 / 64 * 64 + l.val % 64 / 32 * 32 + (l.val % 32 - 16)) = o + l.val - 16 := by omega
    simp only [h, h', e0, e1, dite_false, if_false]

/-- The reference's keys. -/
theorem keys_apply (i : S2x8192x512.Idx) :
    val_main_v94 (F := Ideal) x0 x1 x2 x3 i = ropeProj x0 x1 x2 x3 (i 0) (i 1) (512 + (i 2).val) := by
  have h2 : (i 2).val < 512 := (i 2).isLt
  rw [val_main_v94_apply, val_main_v93_apply]
  have e : idx_main_v93 i = ix5 (i 0) (i 1) ⟨(i 2).val / 128, by omega⟩ ⟨(i 2).val % 128 / 64, by omega⟩ ⟨(i 2).val % 64, by omega⟩ := by
    funext a
    fin_cases a <;> refine Fin.ext ?_ <;> simp <;> omega
  refine (congrArg (val_main_v85 (F := Ideal) x0 x1 x2 x3) e).trans ?_
  unfold val_main_v85
  rw [v84_eq]
  refine (merged_apply _ (i 0) (i 1) ⟨(i 2).val, h2⟩).trans ?_
  refine rot_ropeProj x0 x1 x2 x3 _ 512 (by decide) _ _ (fun l => ?_) _
  rw [val_main_v71_apply]
  have e : idx_main_v71 (ix3 (i 0) (i 1) l) = ix3 (i 0) (i 1) ⟨512 + l.val, by omega⟩ := by
    funext a
    fin_cases a <;> refine Fin.ext ?_ <;> simp
  exact (congrArg (val_main_v55 (F := Ideal) x0 x1 x2 x3) e).trans (dot_apply x0 x1 x2 x3 _ _ _)

/-- The scaling of the queries by an eighth over the logarithm of two. -/
theorem scaled_apply (b : Fin 2) (n : Fin 8192) (h : Fin 4) (c : Fin 2) (j : Fin 64) :
    val_main_v90 (F := Ideal) x0 x1 x2 x3 (ix5 b n h c j) = (val_main_v70 (F := Ideal) x0 x1 x2 x3 (ix5 b n h c j) * (((8 * Real.log 2)⁻¹ : ℝ) : EReal) : EReal) := by
  rw [val_main_v90_apply, val_main_v87_apply, val_main_v89_apply, val_main_v88_apply, val_main_cst_8_apply, val_main_v86_apply, val_main_cst_7_apply]
  exact scale_eq _

/-- The reference's queries. -/
theorem queries_apply (i : S2x8192x512.Idx) :
    val_main_v92 (F := Ideal) x0 x1 x2 x3 i = ropeProj x0 x1 x2 x3 (i 0) (i 1) (i 2).val * (((8 * Real.log 2)⁻¹ : ℝ) : EReal) := by
  have h2 : (i 2).val < 512 := (i 2).isLt
  rw [val_main_v92_apply, val_main_v91_apply]
  have e : idx_main_v91 i = ix5 (i 0) (i 1) ⟨(i 2).val / 128, by omega⟩ ⟨(i 2).val % 128 / 64, by omega⟩ ⟨(i 2).val % 64, by omega⟩ := by
    funext a
    fin_cases a <;> refine Fin.ext ?_ <;> simp <;> omega
  refine (congrArg (val_main_v90 (F := Ideal) x0 x1 x2 x3) e).trans ?_
  refine (scaled_apply x0 x1 x2 x3 _ _ _ _ _).trans (congrArg (fun z : EReal => z * (((8 * Real.log 2)⁻¹ : ℝ) : EReal)) ?_)
  unfold val_main_v70
  rw [v69_eq]
  refine (merged_apply _ (i 0) (i 1) ⟨(i 2).val, h2⟩).trans ?_
  refine (rot_ropeProj x0 x1 x2 x3 _ 0 (by decide) _ _ (fun l => ?_) _).trans (congrArg (ropeProj x0 x1 x2 x3 (i 0) (i 1)) (Nat.zero_add _))
  rw [val_main_v56_apply]
  have e : idx_main_v56 (ix3 (i 0) (i 1) l) = ix3 (i 0) (i 1) ⟨0 + l.val, by omega⟩ := by
    funext a
    fin_cases a <;> refine Fin.ext ?_ <;> simp
  exact (congrArg (val_main_v55 (F := Ideal) x0 x1 x2 x3) e).trans (dot_apply x0 x1 x2 x3 _ _ _)

end Cert.Input

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Equation
public import proofs.«01_k».proof.Proof.Finite
public import proofs.«01_k».proof.Proof.Context
public import proofs.«01_k».proof.Proof.Conditions
public import proofs.«01_k».proof.Proof.Fourier
public import proofs.«01_k».proof.Proof.Fold
public import proofs.«01_k».proof.Proof.Input
public import proofs.«01_k».proof.Proof.InputReads
public import Idealize.ShloMosaic.Adequacy
public import Idealize.ShloMosaic.Init

@[expose] public section

noncomputable section

namespace Cert.Proof

open Idealize.ShloMosaic Idealize.ShloMosaic.Pointwise Idealize.SL.Sem
open Cert.KernelIdeal.Array Cert.KernelIdeal.Entry Cert.Softmax

/-- THE VALUE: under the precondition the kernel's first result, at every index, is the reference's of the same arguments. -/
theorem result_eq (m : (ℓ : Loc Cert.KernelIdeal.nD Cert.KernelIdeal.τ Cert.KernelIdeal.sig) → Buf (Elt Ideal) ℓ) (c : Dev Cert.KernelIdeal.nD)
    (hp : Cert.Pre_finite_values.fn (F := Ideal) (queries m c) (contextKeys m c) (contextValues m c) (rowKeys m c) (rowValues m c)
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (gain m c) = fun _ => 1#1)
    (i : Cert.ReferenceIdeal.S2x8192x512.Idx) :
    Cert.ReferenceIdeal.Read.val_main_v60 (F := Ideal) (queries m c) (contextKeys m c) (contextValues m c) (rowKeys m c) (rowValues m c)
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (gain m c) i
    = result m c (i 0) (i 1) ⟨(i 2).val / 128, by have := (i 2).isLt; change _ < 512 at this; omega⟩ ⟨(i 2).val % 128, by omega⟩ := by
  obtain ⟨hc, hl, hm⟩ := Cert.Finite.finite _ _ _ _ _ _ _ _ _ _ hp
  refine (Cert.ReferenceIdeal.Reads.result_apply _ _ _ _ _ _ _ _ _ _ i).trans ?_
  unfold result mix
  refine (Cert.Equation.kerOut_eq _ _ _ _ _ _ hm _ _ _ _ fun x k => ?_).symm
  unfold joined
  split
  · exact hc _
  · split
    · exact hl _
    · exact ⟨0, rfl⟩

/-- THE VALUE CLAIM: from memories agreeing on the arguments both programs end with the same two results. -/
theorem algebraic : Cert.algebraic_KernelIdeal_ReferenceIdeal_pre_finite_values (hKernelIdeal := Cert.KernelIdeal.Gen.facts)
    (hReferenceIdeal := Cert.ReferenceIdeal.Gen.facts) (hPre_finite_values := Cert.Finite.facts) := by
  intro m ρ m' ρ' hp hag
  refine ⟨fun c => (Cert.KernelIdeal.Gen.dats m 0 c).arrAt 7 Cert.KernelIdeal.cfg0.N, fun c => (Cert.KernelIdeal.Gen.dats m 0 c).arrAt 8 Cert.KernelIdeal.cfg0.N,
    Cert.KernelIdeal.Value.run_blocks (F := Ideal) m ρ,
    (θ_run Cert.ReferenceIdeal.defs _ _).mono (fun r h c => ⟨(h c).1.trans ?_, (h c).2.1.trans ?_, (h c).2.2⟩) (Cert.ReferenceIdeal.Value.run (F := Ideal) m' ρ')⟩
  · obtain ⟨a0, a1, a2, a3, a4, a5, a6, a7, a8, a9⟩ := hag c
    rw [Cert.ReferenceIdeal.Read.val_main_v60_eq m' c, a0, a1, a2, a3, a4, a5, a6, a7, a8, a9]
    exact (funext fun i => result_eq m c (hp c) i).trans (final7 m c).symm
  · exact Eq.trans rfl (final8 m c).symm

/-- THE NAMED CONSTANT: the literal of the queries' factor is the single-precision constant of the real it is named. -/
theorem preserves_input : Cert.preserves_Kernel2_Kernel2Ideal :=
  IdealRules.named_const.statement Cert.Kernel2Ideal.κ "q_scale" .f32 0x3E38AA3B#32 (((8 * Real.log 2)⁻¹ : ℝ) : EReal) rfl

set_option maxHeartbeats 1600000 in
/-- THE INPUT PROJECTION: from memories agreeing on the arguments both programs end with the same queries, keys, values and Fourier columns. -/
theorem algebraic_input : Cert.algebraic_Kernel2Ideal_Reference2Ideal (hKernel2Ideal := Cert.Kernel2Ideal.Gen.facts)
    (hReference2Ideal := Cert.Reference2Ideal.Gen.facts) := by
  intro m ρ m' ρ' _ hag
  refine ⟨fun c => (Cert.Kernel2Ideal.Gen.dats m 0 c).arrAt 7 Cert.Kernel2Ideal.cfg0.N, fun c => (Cert.Kernel2Ideal.Gen.dats m 0 c).arrAt 8 Cert.Kernel2Ideal.cfg0.N,
    fun c => (Cert.Kernel2Ideal.Gen.dats m 0 c).arrAt 9 Cert.Kernel2Ideal.cfg0.N, fun c => (Cert.Kernel2Ideal.Gen.dats m 0 c).arrAt 10 Cert.Kernel2Ideal.cfg0.N,
    Cert.Kernel2Ideal.Value.run_blocks (F := Ideal) m ρ,
    (θ_run Cert.Reference2Ideal.defs _ _).mono (fun r h c => ⟨(h c).1.trans ?_, (h c).2.1.trans ?_, (h c).2.2.1.trans ?_, (h c).2.2.2.1.trans ?_, (h c).2.2.2.2⟩)
      (Cert.Reference2Ideal.Value.run (F := Ideal) m' ρ')⟩
  · obtain ⟨a0, a1, a2, a3⟩ := hag c
    refine (Cert.Reference2Ideal.Read.val_main_v92_eq m' c).trans ?_
    rw [a0, a1, a2, a3]
    exact (funext fun i => Cert.Input.queries_apply (Cert.Input.rows m c) (Cert.Input.mods m c) (Cert.Input.gain m c) (Cert.Input.weights m c) i).trans (Cert.Input.final7 m c).symm
  · obtain ⟨a0, a1, a2, a3⟩ := hag c
    refine (Cert.Reference2Ideal.Read.val_main_v94_eq m' c).trans ?_
    rw [a0, a1, a2, a3]
    exact (funext fun i => Cert.Input.keys_apply (Cert.Input.rows m c) (Cert.Input.mods m c) (Cert.Input.gain m c) (Cert.Input.weights m c) i).trans (Cert.Input.final8 m c).symm
  · obtain ⟨a0, a1, a2, a3⟩ := hag c
    refine (Cert.Reference2Ideal.Read.val_main_v96_eq _ _ _ _).trans ?_
    rw [a0, a1, a2, a3]
    exact (funext fun i => Cert.Input.values_apply (Cert.Input.rows m c) (Cert.Input.mods m c) (Cert.Input.gain m c) (Cert.Input.weights m c) i).trans (Cert.Input.final9 m c).symm
  · obtain ⟨a0, a1, a2, a3⟩ := hag c
    refine (Cert.Reference2Ideal.Read.val_main_v97_eq _ _ _ _).trans ?_
    refine (congr (congr (congr (congrArg (Cert.Reference2Ideal.Read.val_main_v97 (F := Ideal)) a0) a1) a2) a3).trans ?_
    exact (funext fun i => Cert.Input.fourier_apply (Cert.Input.rows m c) (Cert.Input.mods m c) (Cert.Input.gain m c) (Cert.Input.weights m c) i).trans (Cert.Input.final10 m c).symm

/-- THE CONTEXT'S PROJECTION: from memories agreeing on the arguments both programs end with the same keys and values. -/
theorem algebraic_context : Cert.algebraic_Kernel3Ideal_Reference3Ideal (hKernel3Ideal := Cert.Kernel3Ideal.Gen.facts)
    (hReference3Ideal := Cert.Reference3Ideal.Gen.facts) := by
  intro m ρ m' ρ' _ hag
  refine ⟨fun c => (Cert.Kernel3Ideal.Gen.dats m 0 c).arrAt 4 Cert.Kernel3Ideal.cfg0.N, fun c => (Cert.Kernel3Ideal.Gen.dats m 0 c).arrAt 5 Cert.Kernel3Ideal.cfg0.N,
    Cert.Kernel3Ideal.Value.run_blocks (F := Ideal) m ρ,
    (θ_run Cert.Reference3Ideal.defs _ _).mono (fun r h c => ⟨(h c).1.trans ?_, (h c).2.1.trans ?_, (h c).2.2⟩) (Cert.Reference3Ideal.Value.run (F := Ideal) m' ρ')⟩
  · obtain ⟨a0, a1, a2, a3⟩ := hag c
    refine (Cert.Reference3Ideal.Read.val_main_v30_eq _ _ _ _).trans ?_
    rw [a0, a1, a2, a3]
    exact (funext fun i => Cert.Context.keys_apply (Cert.Context.rows m c) (Cert.Context.mods m c) (Cert.Context.gain m c) (Cert.Context.weights m c) i).trans (Cert.Context.final4 m c).symm
  · obtain ⟨a0, a1, a2, a3⟩ := hag c
    refine (Cert.Reference3Ideal.Read.val_main_v32_eq _ _ _ _).trans ?_
    rw [a0, a1, a2, a3]
    exact (funext fun i => Cert.Context.values_apply (Cert.Context.rows m c) (Cert.Context.mods m c) (Cert.Context.gain m c) (Cert.Context.weights m c) i).trans (Cert.Context.final5 m c).symm

/-- THE MODULATION VECTORS: from memories agreeing on the arguments both programs end with the same vectors. -/
theorem algebraic_mods : Cert.algebraic_Kernel4Ideal_Reference4Ideal (hKernel4Ideal := Cert.Kernel4Ideal.Gen.facts)
    (hReference4Ideal := Cert.Reference4Ideal.Gen.facts) := by
  intro m ρ m' ρ' _ hag
  refine ⟨fun c => (Cert.Kernel4Ideal.Gen.dats m 0 c).arrAt 3 Cert.Kernel4Ideal.cfg0.N,
    Cert.Kernel4Ideal.Value.run_blocks (F := Ideal) m ρ,
    (θ_run Cert.Reference4Ideal.defs _ _).mono (fun r h c => ⟨(h c).1.trans ?_, (h c).2⟩) (Cert.Reference4Ideal.Value.run (F := Ideal) m' ρ')⟩
  obtain ⟨a0, a1, a2, a3⟩ := hag c
  refine (Cert.Reference4Ideal.Read.val_main_v14_eq _ _ _ _).trans ?_
  rw [a0, a1, a2, a3]
  exact (funext fun i => Cert.Conditions.vectors_apply (Cert.Conditions.conds m c) (Cert.Conditions.context m c) (Cert.Conditions.weights m c) (Cert.Conditions.offsets m c) i).trans
    (Cert.Conditions.final3 m c).symm

/-- THE LAST STAGE OF THE FOURIER MIXING: from memories agreeing on the arguments both programs end with the same array. -/
theorem algebraic_fourier : Cert.algebraic_Kernel5Ideal_Reference5Ideal (hKernel5Ideal := Cert.Kernel5Ideal.Gen.facts)
    (hReference5Ideal := Cert.Reference5Ideal.Gen.facts) := by
  intro m ρ m' ρ' _ hag
  refine ⟨fun c => (Cert.Kernel5Ideal.Gen.dats m 0 c).arrAt 4 Cert.Kernel5Ideal.cfg0.N,
    Cert.Kernel5Ideal.Value.run_blocks (F := Ideal) m ρ,
    (θ_run Cert.Reference5Ideal.defs _ _).mono (fun r h c => ⟨(h c).1.trans ?_, (h c).2⟩) (Cert.Reference5Ideal.Value.run (F := Ideal) m' ρ')⟩
  obtain ⟨a0, a1, a2, a3⟩ := hag c
  refine (Cert.Reference5Ideal.Read.val_main_v5_eq _ _ _ _).trans ?_
  rw [a0, a1, a2, a3]
  exact (funext fun i => Cert.Fourier.result_apply (Cert.Fourier.re m c) (Cert.Fourier.im m c) (Cert.Fourier.cosines m c) (Cert.Fourier.sines m c) i).trans
    (Cert.Fourier.final4 m c).symm

/-- THE FOLDED WEIGHTS: from memories agreeing on the arguments both programs end with the same weights. -/
theorem algebraic_fold : Cert.algebraic_Kernel6Ideal_Reference6Ideal (hKernel6Ideal := Cert.Kernel6Ideal.Gen.facts)
    (hReference6Ideal := Cert.Reference6Ideal.Gen.facts) := by
  intro m ρ m' ρ' _ hag
  refine ⟨fun c => (Cert.Kernel6Ideal.Gen.dats m 0 c).arrAt 3 Cert.Kernel6Ideal.cfg0.N,
    Cert.Kernel6Ideal.Value.run_blocks (F := Ideal) m ρ,
    (θ_run Cert.Reference6Ideal.defs _ _).mono (fun r h c => ⟨(h c).1.trans ?_, (h c).2⟩) (Cert.Reference6Ideal.Value.run (F := Ideal) m' ρ')⟩
  obtain ⟨a0, a1, a2⟩ := hag c
  refine (Cert.Reference6Ideal.Read.val_main_v7_eq _ _ _).trans ?_
  rw [a0, a1, a2]
  exact (funext fun i => Cert.Fold.result_apply (Cert.Fold.cosines m c) (Cert.Fold.sines m c) (Cert.Fold.weights m c) i).trans
    (Cert.Fold.final3 m c).symm

/-- The claims, each proved. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Finite.facts,
    fun m ρ _ => Cert.Kernel.Gen.frame m ρ,
    fun m ρ _ => Cert.KernelIdeal.Gen.frame m ρ,
    fun m ρ _ => Cert.KernelIdeal.Gen.frame m ρ,
    fun m ρ _ => (θ_run Cert.ReferenceIdeal.defs _ _).mono (fun r h => ⟨fun c => (h c).2.2, sem_eq_zero_of_no_sems (by decide) r.2⟩)
      (Cert.ReferenceIdeal.Value.run (F := Ideal) m ρ),
    fun m ρ _ => (θ_run Cert.ReferenceIdeal.defs _ _).mono (fun r h => ⟨fun c => (h c).2.2, sem_eq_zero_of_no_sems (by decide) r.2⟩)
      (Cert.ReferenceIdeal.Value.run (F := Ideal) m ρ),
    fun m ρ _ => Cert.Kernel2.Gen.frame m ρ,
    fun m ρ _ => Cert.Kernel2Ideal.Gen.frame m ρ,
    fun m ρ _ => (θ_run Cert.Reference2Ideal.defs _ _).mono (fun r h => ⟨fun c => (h c).2.2.2.2, sem_eq_zero_of_no_sems (by decide) r.2⟩)
      (Cert.Reference2Ideal.Value.run (F := Ideal) m ρ),
    fun m ρ _ => Cert.Kernel3.Gen.frame m ρ,
    fun m ρ _ => Cert.Kernel3Ideal.Gen.frame m ρ,
    fun m ρ _ => (θ_run Cert.Reference3Ideal.defs _ _).mono (fun r h => ⟨fun c => (h c).2.2, sem_eq_zero_of_no_sems (by decide) r.2⟩)
      (Cert.Reference3Ideal.Value.run (F := Ideal) m ρ),
    fun m ρ _ => Cert.Kernel4.Gen.frame m ρ,
    fun m ρ _ => Cert.Kernel4Ideal.Gen.frame m ρ,
    fun m ρ _ => (θ_run Cert.Reference4Ideal.defs _ _).mono (fun r h => ⟨fun c => (h c).2, sem_eq_zero_of_no_sems (by decide) r.2⟩)
      (Cert.Reference4Ideal.Value.run (F := Ideal) m ρ),
    fun m ρ _ => Cert.Kernel5.Gen.frame m ρ,
    fun m ρ _ => Cert.Kernel5Ideal.Gen.frame m ρ,
    fun m ρ _ => (θ_run Cert.Reference5Ideal.defs _ _).mono (fun r h => ⟨fun c => (h c).2, sem_eq_zero_of_no_sems (by decide) r.2⟩)
      (Cert.Reference5Ideal.Value.run (F := Ideal) m ρ),
    fun m ρ _ => Cert.Kernel6.Gen.frame m ρ,
    fun m ρ _ => Cert.Kernel6Ideal.Gen.frame m ρ,
    fun m ρ _ => (θ_run Cert.Reference6Ideal.defs _ _).mono (fun r h => ⟨fun c => (h c).2, sem_eq_zero_of_no_sems (by decide) r.2⟩)
      (Cert.Reference6Ideal.Value.run (F := Ideal) m ρ),
    trivial,
    algebraic,
    preserves_input,
    algebraic_input,
    trivial,
    algebraic_context,
    trivial,
    algebraic_mods,
    trivial,
    algebraic_fourier,
    trivial,
    algebraic_fold⟩

end Cert.Proof

end
